-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x2048 : Shape := ⟨2, ![8192, 2048]⟩
abbrev S8x2048x1000 : Shape := ⟨3, ![8, 2048, 1000]⟩
abbrev S8x1000 : Shape := ⟨2, ![8, 1000]⟩
abbrev S2048x8000 : Shape := ⟨2, ![2048, 8000]⟩
abbrev S8000 : Shape := ⟨1, ![8000]⟩
abbrev S2048x8x1000 : Shape := ⟨3, ![2048, 8, 1000]⟩
abbrev S8x1x1000 : Shape := ⟨3, ![8, 1, 1000]⟩
abbrev S8192x1000 : Shape := ⟨2, ![8192, 1000]⟩
abbrev S1x2048x1000 : Shape := ⟨3, ![1, 2048, 1000]⟩
abbrev S2x2048x1000 : Shape := ⟨3, ![2, 2048, 1000]⟩
abbrev S2 : Shape := ⟨1, ![2]⟩
abbrev S1 : Shape := ⟨1, ![1]⟩
abbrev S_ : Shape := ⟨0, ![]⟩
abbrev S2048x1000 : Shape := ⟨2, ![2048, 1000]⟩
abbrev S2048x1x1000 : Shape := ⟨3, ![2048, 1, 1000]⟩
abbrev S1024x2048 : Shape := ⟨2, ![1024, 2048]⟩
abbrev S1x1x1000 : Shape := ⟨3, ![1, 1, 1000]⟩
abbrev S1024x1000 : Shape := ⟨2, ![1024, 1000]⟩
abbrev S1x1000 : Shape := ⟨2, ![1, 1000]⟩

abbrev nBuf : Space → Nat
  | .hbm => 10
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S8x2048x1000, .f32⟩
  | .hbm, ⟨2, _⟩ => ⟨S8x1000, .f32⟩
  | .hbm, ⟨3, _⟩ => ⟨S2048x8000, .f32⟩
  | .hbm, ⟨4, _⟩ => ⟨S8000, .f32⟩
  | .hbm, ⟨5, _⟩ => ⟨S2048x8x1000, .f32⟩
  | .hbm, ⟨6, _⟩ => ⟨S8x2048x1000, .bf16⟩
  | .hbm, ⟨7, _⟩ => ⟨S8x1x1000, .f32⟩
  | .hbm, ⟨8, _⟩ => ⟨S8x1x1000, .f32⟩
  | .hbm, ⟨9, _⟩ => ⟨S8192x1000, .f32⟩
  | .local _ .vmem, ⟨0, _⟩ => ⟨S1x2048x1000, .bf16⟩
  | .local _ .vmem, ⟨1, _⟩ => ⟨S1x2048x1000, .bf16⟩
  | .local _ .vmem, ⟨2, _⟩ => ⟨S2x2048x1000, .f32⟩
  | .local _ .vmem, ⟨3, _⟩ => ⟨S1024x2048, .f32⟩
  | .local _ .vmem, ⟨4, _⟩ => ⟨S1024x2048, .f32⟩
  | .local _ .vmem, ⟨5, _⟩ => ⟨S1x2048x1000, .f32⟩
  | .local _ .vmem, ⟨6, _⟩ => ⟨S1x2048x1000, .f32⟩
  | .local _ .vmem, ⟨7, _⟩ => ⟨S1x1x1000, .f32⟩
  | .local _ .vmem, ⟨8, _⟩ => ⟨S1x1x1000, .f32⟩
  | .local _ .vmem, ⟨9, _⟩ => ⟨S1x2048x1000, .bf16⟩
  | .local _ .vmem, ⟨10, _⟩ => ⟨S1x2048x1000, .bf16⟩
  | .local _ .vmem, ⟨11, _⟩ => ⟨S1x1x1000, .f32⟩
  | .local _ .vmem, ⟨12, _⟩ => ⟨S1x1x1000, .f32⟩
  | .local _ .vmem, ⟨13, _⟩ => ⟨S1024x1000, .f32⟩
  | .local _ .vmem, ⟨14, _⟩ => ⟨S1024x1000, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v4 : BitVec 1 := Scalar.cmpi .slt arg0 c7_i32
  let v5 : BitVec 32 := Scalar.extui v4
  let c0_i32_1 : BitVec 32 := 0#32
  let v6 : BitVec 1 := Scalar.cmpi .ne v5 c0_i32_1
  v6

def k0_off1 (i : grid0.Coords) : Fin 1 → Nat :=
  let arg0 : BitVec 32 := BitVec.ofNat 32 (i 0).val
  let c1_i32 : BitVec 32 := 1#32
  let v20 : BitVec 32 := Scalar.addi arg0 c1_i32
  let c2_i32_10 : BitVec 32 := 2#32
  let v21 : BitVec 32 := Scalar.remsi v20 c2_i32_10
  ![v21.toNat]
def k0_off2 (i : grid0.Coords) : Fin 3 → Nat :=
  let arg0 : BitVec 32 := BitVec.ofNat 32 (i 0).val
  let c1_i32 : BitVec 32 := 1#32
  let v20 : BitVec 32 := Scalar.addi arg0 c1_i32
  let c2_i32_10 : BitVec 32 := 2#32
  let v21 : BitVec 32 := Scalar.remsi v20 c2_i32_10
  let c0_i32_12 : BitVec 32 := 0#32
  let c0_i32_13 : BitVec 32 := 0#32
  ![v21.toNat, 0, 0]
def k0_off3 (i : grid0.Coords) : Fin 3 → Nat :=
  let c0_i32_14 : BitVec 32 := 0#32
  let arg0 : BitVec 32 := BitVec.ofNat 32 (i 0).val
  let c1_i32_11 : BitVec 32 := 1#32
  let v22 : BitVec 32 := Scalar.addi arg0 c1_i32_11
  let c0_i32_15 : BitVec 32 := 0#32
  ![0, v22.toNat, 0]
def k0_off4 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off5 (i : grid0.Coords) : Fin 3 → Nat :=
  let arg0 : BitVec 32 := BitVec.ofNat 32 (i 0).val
  let c2_i32 : BitVec 32 := 2#32
  let v0 : BitVec 32 := Scalar.remsi arg0 c2_i32
  let c0_i32_2 : BitVec 32 := 0#32
  let c0_i32_3 : BitVec 32 := 0#32
  ![v0.toNat, 0, 0]
def k0_off6 (i : grid0.Coords) : Fin 3 → Nat :=
  let c0_i32_4 : BitVec 32 := 0#32
  let arg0 : BitVec 32 := BitVec.ofNat 32 (i 0).val
  let c0_i32_5 : BitVec 32 := 0#32
  ![0, arg0.toNat, 0]
def k0_off7 (i : grid0.Coords) : Fin 3 → Nat :=
  let arg0 : BitVec 32 := BitVec.ofNat 32 (i 0).val
  let c2_i32 : BitVec 32 := 2#32
  let v0 : BitVec 32 := Scalar.remsi arg0 c2_i32
  let v13 : Index := Scalar.indexCast v0
  let c0 : Index := 0#32
  let c0_6 : Index := 0#32
  ![v13.toNat, 0, 0]
def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1000 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev grid1 : Pipeline.Grid := ⟨2, ![8, 8], ![false, false]⟩

def k1_cond1 (i : grid1.Coords) : BitVec 1 :=
  let arg1 : BitVec 32 := BitVec.ofNat 32 (i 1).val
  let c0_i32 : BitVec 32 := 0#32
  let v16 : BitVec 1 := Scalar.cmpi .eq arg1 c0_i32
  let v17 : BitVec 32 := Scalar.extui v16
  let c0_i32_14 : BitVec 32 := 0#32
  let v18 : BitVec 1 := Scalar.cmpi .ne v17 c0_i32_14
  v18

def k1_cond2 (i : grid1.Coords) : BitVec 1 :=
  let arg1 : BitVec 32 := BitVec.ofNat 32 (i 1).val
  let c0_i32_15 : BitVec 32 := 0#32
  let v19 : BitVec 1 := Scalar.cmpi .ne arg1 c0_i32_15
  let v20 : BitVec 32 := Scalar.extui v19
  let c0_i32_16 : BitVec 32 := 0#32
  let v21 : BitVec 1 := Scalar.cmpi .ne v20 c0_i32_16
  v21

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x2048x1000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1x1000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x2048x1000 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x1x1000 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1024x1000 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]
-- ==== ReferenceIdeal.lean ====
abbrev S8192x2048 : Shape := ⟨2, ![8192, 2048]⟩
abbrev S8x2048x1000 : Shape := ⟨3, ![8, 2048, 1000]⟩
abbrev S8x1000 : Shape := ⟨2, ![8, 1000]⟩
abbrev S2048x8000 : Shape := ⟨2, ![2048, 8000]⟩
abbrev S8000 : Shape := ⟨1, ![8000]⟩
abbrev S8192x8x1000 : Shape := ⟨3, ![8192, 8, 1000]⟩
abbrev S1x8x1000 : Shape := ⟨3, ![1, 8, 1000]⟩
abbrev S8192x8000 : Shape := ⟨2, ![8192, 8000]⟩
abbrev S1x8000 : Shape := ⟨2, ![1, 8000]⟩
abbrev S_ : Shape := ⟨0, ![]⟩
abbrev S8192x1000 : Shape := ⟨2, ![8192, 1000]⟩

abbrev nBuf : Space → Nat
  | .hbm => 17
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8x2048x1000, .f32⟩
  | .hbm, ⟨2, _⟩ => ⟨S8x1000, .f32⟩
  | .hbm, ⟨3, _⟩ => ⟨S2048x8000, .f32⟩
  | .hbm, ⟨4, _⟩ => ⟨S8000, .f32⟩
  | .hbm, ⟨5, _⟩ => ⟨S8192x8x1000, .f32⟩
  | .hbm, ⟨6, _⟩ => ⟨S1x8x1000, .f32⟩
  | .hbm, ⟨7, _⟩ => ⟨S8192x8x1000, .f32⟩
  | .hbm, ⟨8, _⟩ => ⟨S8192x8x1000, .f32⟩
  | .hbm, ⟨9, _⟩ => ⟨S8192x8000, .f32⟩
  | .hbm, ⟨10, _⟩ => ⟨S1x8000, .f32⟩
  | .hbm, ⟨11, _⟩ => ⟨S8192x8000, .f32⟩
  | .hbm, ⟨12, _⟩ => ⟨S8192x8000, .f32⟩
  | .hbm, ⟨13, _⟩ => ⟨S8192x8x1000, .f32⟩
  | .hbm, ⟨14, _⟩ => ⟨S8192x8x1000, .f32⟩
  | .hbm, ⟨15, _⟩ => ⟨S_, .f32⟩
  | .hbm, ⟨16, _⟩ => ⟨S8192x1000, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Proof.KernelIdealCastRing.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Cast

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The first kernel: casting `resnet_weight`, block by block, through two slots

The kernel copies block `t + 1` of the reshaped weights into one half of a two-slot scratch buffer while it
reads block `t` from the other half. This module names the slots, blocks and semaphores, and states what is
held before each step. -/

variable (V : (c : Dev nD) → (b : Ref sig .tc) → Buf (Elt F) ((c : Thread nD τ).loc b))

/-- The kernel takes its first `if` (start block 0). -/
abbrev isFirst (i : grid0.Coords) : Prop := (Scalar.cmpi .ne (Scalar.extui (Scalar.cmpi .eq (BitVec.ofNat 32 (i 0).val) 0#32)) 0#32) = 1#1
/-- It does so at the first grid point only. -/
theorem isFirst_iff : ∀ t : Fin cfg0.N, isFirst (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [isFirst, e0]
    word_cmp
   : ∀ t : Fin grid0.N, isFirst (grid0.coords t) ↔ t.val % 8 = 0)

/-- The kernel takes its second `if` (start the next block). -/
abbrev hasNext (i : grid0.Coords) : Prop := k0_cond2 i = 1#1
/-- It does so at every point but the last. -/
theorem hasNext_iff : ∀ t : Fin cfg0.N, hasNext (grid0.coords t) ↔ t.val < 7 :=
  (by decide +kernel : ∀ t : Fin grid0.N, hasNext (grid0.coords t) ↔ t.val < 7)

/-- One staging buffer of the output window; what the window holds is stated through it. -/
abbrev outView : View sig .tc .vmem S1x2048x1000 .bf16 := (Memref.whole cc0_stg0_0 : Memref sig .tc .vmem S1x2048x1000 .bf16).view
/-- The staging buffer the output window uses at point `t`. -/
abbrev outMem (t : Fin cfg0.N) : Memref sig .tc .vmem S1x2048x1000 .bf16 := win0_0.stage (cfg0.slots t 0)
/-- It is a whole buffer. -/
abbrev outMem_whole (t : Fin cfg0.N) : (outMem t).IsWhole := hstage0_0 ((cfg0.slots t 0).cast nbuf0_0)
/-- The two-slot scratch buffer, whole. -/
abbrev scratchMem : Memref sig .tc .vmem S2x2048x1000 .f32 := Memref.whole cc0_scratch0
/-- The source array left in HBM, whole. -/
abbrev srcMem : Memref sig .tc .hbm S2048x8x1000 .f32 := Memref.whole main_call0_v0
/-- What memref `M`'s buffer holds on core `c`. -/
abbrev MemBuf (c : Dev nD) {sp : Space} {S : Shape} {e : EltTy} (M : Memref sig .tc sp S e) : Type := Buf (Elt F) (M.view.loc (c : Thread nD τ))
/-- Memref `M`'s buffer on core `c`, held whole at `f`. -/
abbrev memPt (c : Dev nD) {sp : Space} {S : Shape} {e : EltTy} (M : Memref sig .tc sp S e) (f : MemBuf (F := F) c M) : sProp 𝕄 :=
  M.view.loc (c : Thread nD τ) ↦{fullShare} f

/-- The kernel's own two DMA semaphores. -/
abbrev ownSem : Fin 2 → SemLoc sig := fun j => (![SemLoc.dma 2, SemLoc.dma 3] : Fin 2 → SemLoc sig) j
/-- Neither belongs to a window. -/
theorem ownSem_facts : Pipeline.OwnSemFacts spec0 ownSem := by decide
/-- Both at zero, listed. -/
theorem ownSem_zero (c : Dev nD) :
    (Pipeline.ownSems0 (Ix := Unit) (Name := ℕ) (U := Pipeline.UD sig nD τ) (Lvl := ℕ) (Val := Elt F) (τ := τ) ownSem c : sProp 𝕄)
      = iprop(semVal ((c : Thread nD τ), SemLoc.dma 2) 0 ∗ semVal ((c : Thread nD τ), SemLoc.dma 3) 0) := by
  rw [Pipeline.ownSems0_eq_of_list c ownSem [0, 1] (by decide) (by decide)]; rfl
/-- The HBM operand that the kernel copies itself. -/
def srcRefs : Finset (Ref sig .tc) := {main_call0_v0}
/-- It is no array of a window. -/
theorem srcRefs_sub : srcRefs ⊆ Pipeline.restRefs sig spec0 := by decide
/-- That operand held at the contents found, listed. -/
theorem srcRefs_held (c : Dev nD) :
    (bigSep srcRefs (fun b => ((c : Thread nD τ).loc b) ↦{fullShare} V c b) : sProp 𝕄) = iprop(memPt c srcMem (V c main_call0_v0)) := by
  rw [BI.bigSep_eq_bigSepL_of_eq [main_call0_v0] (by decide) (by decide)]; rfl

/-- The second kernel's staging buffers, which the first kernel leaves alone, each at anything. -/
def otherStages (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- What the launch hands the kernel: scratch and idle staging buffers at anything, the generator register,
    both semaphores at zero, the source array at the contents found. -/
theorem PhiD_eq (c : Dev nD) :
    (Pipeline.ΦD ownSem spec0 srcRefs V c : sProp 𝕄)
      = iprop(iprop((∃ d, owns (c : Thread nD τ) scratchMem fullShare d) ∗ otherStages c) ∗ (∃ r, prngReg c r) ∗ iprop(semVal ((c : Thread nD τ), SemLoc.dma 2) 0 ∗ semVal ((c : Thread nD τ), SemLoc.dma 3) 0) ∗ iprop(memPt c srcMem (V c main_call0_v0))) := by
  rw [Pipeline.ΦD_eq, scopedRest0_eq, ownSem_zero, srcRefs_held]; unfold otherStages; simp only [scratchMem, owns_whole]; try rfl

instance : NeZero grid0.N := ⟨by rw [N_0]; decide⟩
/-- Slot `s` lies in the scratch buffer. -/
theorem slot_inb (s : Fin 2) : ∀ a, (![s.val, 0, 0] : Fin 3 → Nat) a + S1x2048x1000.size a ≤ S2x2048x1000.size a := by
  have := s.isLt; intro a; fin_cases a <;> simp <;> omega
/-- Block `b` lies in the source array. -/
theorem block_inb (b : Fin 8) : ∀ a, (![0, 1 * b.val, 0] : Fin 3 → Nat) a + S2048x1x1000.size a ≤ S2048x8x1000.size a := by
  have := b.isLt; intro a; fin_cases a <;> simp <;> omega
/-- Cell `s` lies in the semaphore array. -/
theorem cell_inb (s : Fin 2) : ∀ a, (![s.val] : Fin 1 → Nat) a + S1.size a ≤ S2.size a := by
  have := s.isLt; intro a; fin_cases a <;> simp <;> omega
/-- Slot `s` of the scratch, as the copies name their destination. -/
def slotMem (s : Fin 2) : Memref sig .tc .vmem S2048x1000 .f32 :=
  (scratchMem.slice (Rect.unit (s := S2x2048x1000) ![s.val, 0, 0] S1x2048x1000.size (slot_inb s)) (fun _ => rfl)).squeeze S2048x1000 squeezes_S1x2048x1000_S2048x1000
/-- Block `b` of the source (one slice of its middle axis), as the copies name their source. -/
def blockMem (b : Fin 8) : Memref sig .tc .hbm S2048x1000 .f32 :=
  (srcMem.slice (Rect.unit (s := S2048x8x1000) ![0, 1 * b.val, 0] S2048x1x1000.size (block_inb b)) (fun _ => rfl)).squeeze S2048x1000 squeezes_S2048x1x1000_S2048x1000
/-- Cell `s` of the semaphore array. -/
def cellArr (s : Fin 2) : DmaSems sig S_ := (cc0_scratch1.slice (Rect.unit (s := S2) ![s.val] S1.size (cell_inb s))).squeeze S_ squeezes_S1_S_
/-- Its number. -/
abbrev cell (s : Fin 2) : SemLoc sig := SemLoc.dma (cellArr s).sem
/-- Cell 0 is DMA semaphore 2. -/
theorem cell_zero : cell 0 = SemLoc.dma 2 := by decide
/-- Cell 1 is DMA semaphore 3. -/
theorem cell_one : cell 1 = SemLoc.dma 3 := by decide

section RingDefs
variable (c : Dev nD) (W : MemBuf (F := F) c srcMem)
/-- The source is lent by share: a copy of the read permission for each slot. -/
abbrev slotShare (s : Fin 2) : PosShare TreeShare := if s.val = 0 then fullShare.left else fullShare.right
/-- Slot `s` held at `f`. -/
abbrev slotP (s : Fin 2) (f : MemBuf (F := F) c (slotMem s)) : sProp 𝕄 := (slotMem s).view.loc (c : Thread nD τ) ↦[(slotMem s).view.set]{fullShare} f
/-- Cell `s` at zero. -/
abbrev cellP (s : Fin 2) : sProp 𝕄 := semVal ((c : Thread nD τ), cell s) 0
/-- Block `b` of slot `s`'s copy of the source. -/
abbrev srcP (s : Fin 2) (b : Fin 8) : sProp 𝕄 := (blockMem b).view.loc (c : Thread nD τ) ↦[(blockMem b).view.set]{slotShare s} W
/-- The rest of that copy. -/
def restP (s : Fin 2) (b : Fin 8) : sProp 𝕄 := ((c : Thread nD τ).loc main_call0_v0) ↦[Finset.univ \ (blockMem b).view.set]{slotShare s} W
/-- That copy whole. -/
abbrev wholeP (s : Fin 2) : sProp 𝕄 := ((c : Thread nD τ).loc main_call0_v0) ↦[Finset.univ]{slotShare s} W
/-- Slot `s`'s contents once block `b` has landed in it over `f`. -/
abbrev landed (s : Fin 2) (b : Fin 8) (f : MemBuf (F := F) c (slotMem s)) : MemBuf (F := F) c (slotMem s) :=
  (slotMem s).view.writes (Elt F) f [⟨Rect.whole S2048x1000, ReadAs.same.apply ((blockMem b).view.read (Elt F) W)⟩]
/-- A transfer of block `b` into slot `s` under way: it delivers the slot landed and gives the lent block back.
    -/
abbrev flightP (s : Fin 2) (b : Fin 8) (f : MemBuf (F := F) c (slotMem s)) : sProp 𝕄 :=
  Transfers.Flight countersEmb (c : Thread nD τ) (cell s) default ((slotMem s).view.amount (cell s))
    iprop(slotP c s (landed c W s b f) ∗ srcP c W s b)
/-- A slot that is not in flight carries its copy of the source whole. -/
abbrev slotW (s : Fin 2) (f : MemBuf (F := F) c (slotMem s)) : sProp 𝕄 := iprop(slotP c s f ∗ wholeP c W s)
/-- A slot in flight carries the rest of the copy its transfer borrows from. -/
abbrev flightW (s : Fin 2) (b : Fin 8) (f : MemBuf (F := F) c (slotMem s)) : sProp 𝕄 := iprop(flightP c W s b f ∗ restP c W s b)
/-- No block is held apart. -/
abbrev noHome (b : Fin 8) : sProp 𝕄 := iprop(emp)
/-- The ring before step `k`: all free before the first; later block `k` is in flight into slot `k` and the
    other slot keeps block `k - 1`. -/
def ringAt (k : ℕ) : sProp 𝕄 :=
  if k = 0 then Ring.At₀ (cellP c) (slotW c W) noHome
  else Ring.AtK 1 (cellP c) (slotW c W) noHome (flightW c W) (landed c W) k
omit [FloatOps F] in
/-- Cell 0 at zero, by number. -/
theorem cellP_zero : cellP (F := F) c 0 = semVal ((c : Thread nD τ), SemLoc.dma 2) 0 := congrArg (fun x => (semVal ((c : Thread nD τ), x) 0 : sProp 𝕄)) cell_zero
omit [FloatOps F] in
/-- Cell 1 at zero, by number. -/
theorem cellP_one : cellP (F := F) c 1 = semVal ((c : Thread nD τ), SemLoc.dma 3) 0 := congrArg (fun x => (semVal ((c : Thread nD τ), x) 0 : sProp 𝕄)) cell_one
end RingDefs

/-- Slot `s`'s elements of the scratch. -/
abbrev slotSet (s : Fin 2) : Finset S2x2048x1000.Idx := (Rect.unit (s := S2x2048x1000) ![s.val, 0, 0] S1x2048x1000.size (slot_inb s)).set
/-- They are the elements its memref names. -/
theorem slotSet_eq (s : Fin 2) : (slotMem s).view.set = slotSet s := by
  simp only [slotMem, Memref.view_squeeze, View.set_reshape]; exact View.set_slice_whole _ _
/-- Distinct slots share no element. -/
theorem slots_disjoint (s s' : Fin 2) (h : s ≠ s') : Disjoint (slotSet s) (slotSet s') :=
  Ring.lead_disjoint (s := S2x2048x1000) (0 : Fin 3) 1 (fun s : Fin 2 => (![s.val, 0, 0] : Fin 3 → Nat)) S1x2048x1000.size slot_inb (fun s => by simp) rfl s s' h
/-- The slots make up the scratch. -/
theorem slots_cover : Finset.univ.biUnion slotSet = Finset.univ :=
  Ring.lead_cover (s := S2x2048x1000) (0 : Fin 3) 1 (fun s : Fin 2 => (![s.val, 0, 0] : Fin 3 → Nat)) S1x2048x1000.size slot_inb (fun s => by simp)
    (fun s a ha => by fin_cases a <;> first | exact absurd rfl ha | rfl) rfl (fun a ha => by fin_cases a <;> first | exact absurd rfl ha | rfl) rfl

section InOut
variable (c : Dev nD) (W : MemBuf (F := F) c srcMem)
/-- Slot `s` held, as a part of the scratch. -/
theorem slotP_eq (s : Fin 2) (f) : slotP (F := F) c s f = (((c : Thread nD τ).loc cc0_scratch0) ↦[slotSet s]{fullShare} f : sProp 𝕄) := by
  unfold slotP; rw [slotSet_eq]; rfl
/-- A slot's copy of the source is block `b` and the rest. -/
theorem wholeP_split (s : Fin 2) (b : Fin 8) : wholeP (F := F) c W s ⊣⊢ iprop(srcP c W s b ∗ restP c W s b) := by
  unfold restP; exact pointsTo_split_subset (Finset.subset_univ _)
/-- The source whole is the two copies. -/
theorem srcMem_split : (memPt c srcMem W : sProp 𝕄) ⊣⊢ iprop(wholeP c W 0 ∗ wholeP c W 1) :=
  pointsTo_share (PosShare.mem_left_op_right fullShare)
set_option maxHeartbeats 1000000 in
/-- The scratch at anything is its slots at anything, -/
theorem slots_in : iprop(∃ d, owns (c : Thread nD τ) scratchMem fullShare d) ⊢ (iprop((∃ f, slotP (F := F) c 0 f) ∗ ∃ f, slotP (F := F) c 1 f) : sProp 𝕄) := by
  simp only [scratchMem, owns_whole]
  exact Ring.slots2_split (U := Pipeline.UD sig nD τ) (ℓ := (c : Thread nD τ).loc cc0_scratch0) (q := fullShare) slotSet slots_disjoint slots_cover
    (slotP c 0) (slotP c 1) (slotP_eq c 0) (slotP_eq c 1)
set_option maxHeartbeats 1000000 in
/-- and back. -/
theorem slots_out : (iprop((∃ f, slotP (F := F) c 0 f) ∗ ∃ f, slotP (F := F) c 1 f) : sProp 𝕄) ⊢ iprop(∃ d, owns (c : Thread nD τ) scratchMem fullShare d) := by
  simp only [scratchMem, owns_whole]
  exact Ring.slots2_join (U := Pipeline.UD sig nD τ) (ℓ := (c : Thread nD τ).loc cc0_scratch0) (q := fullShare) slotSet slots_disjoint slots_cover
    (slotP c 0) (slotP c 1) (slotP_eq c 0) (slotP_eq c 1)
end InOut

/-- What the launch hands over makes the ring before its first step. -/
theorem ring_in (c : Dev nD) :
    iprop((∃ d, owns (c : Thread nD τ) scratchMem fullShare d) ∗ (semVal ((c : Thread nD τ), SemLoc.dma 2) 0 ∗ semVal ((c : Thread nD τ), SemLoc.dma 3) 0) ∗ memPt c srcMem (V c main_call0_v0))
      ⊢ ringAt c (V c main_call0_v0) 0 := by
  unfold ringAt; rw [if_pos rfl]; unfold Ring.At₀
  rw [Ring.bigSep_fin2]
  simp only [Ring.free, cellP_zero, cellP_one]
  iintro ⟨HS, Hc, HW⟩
  iapply Ring.with_homes₀
  icases Hc with ⟨H0, H1⟩
  ihave HS' := (slots_in (F := F) c) $$ HS
  icases HS' with ⟨⟨%d0, HS0⟩, ⟨%d1, HS1⟩⟩
  ihave HW' := (srcMem_split (F := F) c (V c main_call0_v0)).1 $$ HW
  icases HW' with ⟨HW0, HW1⟩
  isplitl [H0 HS0 HW0]
  · isplitl [H0]; · iexact H0
    iexists d0; isplitl [HS0]; · iexact HS0
    iexact HW0
  · isplitl [H1]; · iexact H1
    iexists d1; isplitl [HS1]; · iexact HS1
    iexact HW1
/-- After the last step the ring gives those pieces back. -/
theorem ring_out (c : Dev nD) :
    ringAt c (V c main_call0_v0) 8
      ⊢ iprop((∃ d, owns (c : Thread nD τ) scratchMem fullShare d) ∗ (semVal ((c : Thread nD τ), SemLoc.dma 2) 0 ∗ semVal ((c : Thread nD τ), SemLoc.dma 3) 0) ∗ memPt c srcMem (V c main_call0_v0)) := by
  unfold ringAt; rw [if_neg (by decide)]
  iintro H
  ihave H' := (Ring.free2_of_AtK_last _ _ _ _ _) $$ H
  simp only [Ring.free, cellP_zero, cellP_one]
  icases H' with ⟨-, ⟨H0, ⟨%f0, HS0, HW0⟩⟩, ⟨H1, ⟨%f1, HS1, HW1⟩⟩⟩
  isplitl [HS0 HS1]
  · iapply (slots_out (F := F) c); isplitl [HS0]; · iexists f0; iexact HS0
    iexists f1; iexact HS1
  isplitl [H0 H1]
  · isplitl [H0]; · iexact H0
    iexact H1
  · iapply (srcMem_split (F := F) c (V c main_call0_v0)).2; isplitl [HW0]; · iexact HW0
    iexact HW1

section Spelling
omit [FloatOps F]
/-- At the first point the ring takes its first step. -/
theorem step_first : ∀ t : Fin grid0.N, isFirst (grid0.coords t) → hasNext (grid0.coords t) → t.val = 0 ∧ (t.val + 1) = 1 := by decide +kernel
/-- At the points between, a step with a block still to start. -/
theorem step_middle : ∀ t : Fin grid0.N, ¬isFirst (grid0.coords t) → hasNext (grid0.coords t) → 1 ≤ t.val ∧ t.val + 1 < 8 ∧ (t.val + 1) = t.val + 1 := by decide +kernel
/-- At the last point, its last step. -/
theorem step_last : ∀ t : Fin grid0.N, ¬isFirst (grid0.coords t) → ¬hasNext (grid0.coords t) → 1 ≤ t.val ∧ t.val + 1 = 8 ∧ (t.val + 1) = t.val + 1 := by decide +kernel
set_option synthInstance.maxSize 4096 in
/-- Offsets: the first copy writes slot `t`. -/
theorem off_eq_1 : ∀ t : Fin grid0.N, isFirst (grid0.coords t) → hasNext (grid0.coords t) → (![0, 0, 0] : Fin 3 → Nat) = ![(Ring.sl 2 t.val).val, 0, 0] := by decide +kernel
/-- The first copy writes slot `t`. -/
@[sl_canon] theorem spell_1 (t : Fin grid0.N) (h0 : isFirst (grid0.coords t)) (h1 : hasNext (grid0.coords t)) :
    (scratchMem.slice (Rect.unit (s := S2x2048x1000) ![0, 0, 0] S1x2048x1000.size inb_S2x2048x1000_S1x2048x1000_0_0_0) (fun _ => rfl)).squeeze S2048x1000 squeezes_S1x2048x1000_S2048x1000 = slotMem (Ring.sl 2 t.val) :=
  congrArg (fun M : Memref sig .tc .vmem S1x2048x1000 .f32 => M.squeeze S2048x1000 squeezes_S1x2048x1000_S2048x1000) (Memref.slice_unit_congr _ (off_eq_1 t h0 h1) _ _ (fun _ => rfl) (fun _ => rfl))
set_option synthInstance.maxSize 4096 in
/-- Offsets: the first copy's cell is cell `t`. -/
theorem off_eq_2 : ∀ t : Fin grid0.N, isFirst (grid0.coords t) → hasNext (grid0.coords t) → (![0] : Fin 1 → Nat) = ![(Ring.sl 2 t.val).val] := by decide +kernel
/-- The first copy's cell is cell `t`. -/
@[sl_canon] theorem spell_2 (t : Fin grid0.N) (h0 : isFirst (grid0.coords t)) (h1 : hasNext (grid0.coords t)) :
    (cc0_scratch1.slice (Rect.unit (s := S2) ![0] S1.size inb_S2_S1_0)).squeeze S_ squeezes_S1_S_ = cellArr (Ring.sl 2 t.val) :=
  congrArg (fun A : DmaSems sig S1 => A.squeeze S_ squeezes_S1_S_) (SemArray.slice_unit_congr _ (off_eq_2 t h0 h1) _ _)
set_option synthInstance.maxSize 4096 in
/-- Offsets: the first copy reads block `t`. -/
theorem off_eq_3 : ∀ t : Fin grid0.N, isFirst (grid0.coords t) → hasNext (grid0.coords t) → (![0, 0, 0] : Fin 3 → Nat) = ![0, 1 * (Ring.bk 8 t.val).val, 0] := by decide +kernel
/-- The first copy reads block `t`. -/
@[sl_canon] theorem spell_3 (t : Fin grid0.N) (h0 : isFirst (grid0.coords t)) (h1 : hasNext (grid0.coords t)) :
    (srcMem.slice (Rect.unit (s := S2048x8x1000) ![0, 0, 0] S2048x1x1000.size inb_S2048x8x1000_S2048x1x1000_0_0_0) (fun _ => rfl)).squeeze S2048x1000 squeezes_S2048x1x1000_S2048x1000 = blockMem (Ring.bk 8 t.val) :=
  congrArg (fun M : Memref sig .tc .hbm S2048x1x1000 .f32 => M.squeeze S2048x1000 squeezes_S2048x1x1000_S2048x1000) (Memref.slice_unit_congr _ (off_eq_3 t h0 h1) _ _ (fun _ => rfl) (fun _ => rfl))
set_option synthInstance.maxSize 4096 in
/-- Offsets: the next copy writes slot `t + 1`. -/
theorem off_eq_4 : ∀ t : Fin grid0.N, k0_off2 (grid0.coords t) = ![(Ring.sl 2 (t.val + 1)).val, 0, 0] := by decide +kernel
/-- The next copy writes slot `t + 1`. -/
@[sl_canon] theorem spell_4 (t : Fin grid0.N) (h1 : hasNext (grid0.coords t)) :
    (scratchMem.slice (Rect.unit (s := S2x2048x1000) (k0_off2 (grid0.coords t)) S1x2048x1000.size (k0_off2_inb (grid0.coords t) h1)) (fun _ => rfl)).squeeze S2048x1000 squeezes_S1x2048x1000_S2048x1000 = slotMem (Ring.sl 2 (t.val + 1)) :=
  congrArg (fun M : Memref sig .tc .vmem S1x2048x1000 .f32 => M.squeeze S2048x1000 squeezes_S1x2048x1000_S2048x1000) (Memref.slice_unit_congr _ (off_eq_4 t ) _ _ (fun _ => rfl) (fun _ => rfl))
set_option synthInstance.maxSize 4096 in
/-- Offsets: the next copy's cell is cell `t + 1`. -/
theorem off_eq_5 : ∀ t : Fin grid0.N, k0_off1 (grid0.coords t) = ![(Ring.sl 2 (t.val + 1)).val] := by decide +kernel
/-- The next copy's cell is cell `t + 1`. -/
@[sl_canon] theorem spell_5 (t : Fin grid0.N) (h1 : hasNext (grid0.coords t)) :
    (cc0_scratch1.slice (Rect.unit (s := S2) (k0_off1 (grid0.coords t)) S1.size (k0_off1_inb (grid0.coords t) h1))).squeeze S_ squeezes_S1_S_ = cellArr (Ring.sl 2 (t.val + 1)) :=
  congrArg (fun A : DmaSems sig S1 => A.squeeze S_ squeezes_S1_S_) (SemArray.slice_unit_congr _ (off_eq_5 t ) _ _)
set_option synthInstance.maxSize 4096 in
/-- Offsets: the next copy, from the first point, reads block `t + 1`. -/
theorem off_eq_6 : ∀ t : Fin grid0.N, isFirst (grid0.coords t) → hasNext (grid0.coords t) → k0_off3 (grid0.coords t) = ![0, 1 * (Ring.bk 8 (t.val + 1)).val, 0] := by decide +kernel
/-- The next copy, from the first point, reads block `t + 1`. -/
@[sl_canon] theorem spell_6 (t : Fin grid0.N) (h0 : isFirst (grid0.coords t)) (h1 : hasNext (grid0.coords t)) :
    (srcMem.slice (Rect.unit (s := S2048x8x1000) (k0_off3 (grid0.coords t)) S2048x1x1000.size (k0_off3_inb (grid0.coords t) h1)) (fun _ => rfl)).squeeze S2048x1000 squeezes_S2048x1x1000_S2048x1000 = blockMem (Ring.bk 8 (t.val + 1)) :=
  congrArg (fun M : Memref sig .tc .hbm S2048x1x1000 .f32 => M.squeeze S2048x1000 squeezes_S2048x1x1000_S2048x1000) (Memref.slice_unit_congr _ (off_eq_6 t h0 h1) _ _ (fun _ => rfl) (fun _ => rfl))
set_option synthInstance.maxSize 4096 in
/-- Offsets: the wait is for slot `t`. -/
theorem off_eq_7 : ∀ t : Fin grid0.N, k0_off5 (grid0.coords t) = ![(Ring.sl 2 t.val).val, 0, 0] := by decide +kernel
/-- The wait is for slot `t`. -/
@[sl_canon] theorem spell_7 (t : Fin grid0.N) :
    (scratchMem.slice (Rect.unit (s := S2x2048x1000) (k0_off5 (grid0.coords t)) S1x2048x1000.size (k0_off5_inb (grid0.coords t))) (fun _ => rfl)).squeeze S2048x1000 squeezes_S1x2048x1000_S2048x1000 = slotMem (Ring.sl 2 t.val) :=
  congrArg (fun M : Memref sig .tc .vmem S1x2048x1000 .f32 => M.squeeze S2048x1000 squeezes_S1x2048x1000_S2048x1000) (Memref.slice_unit_congr _ (off_eq_7 t ) _ _ (fun _ => rfl) (fun _ => rfl))
set_option synthInstance.maxSize 4096 in
/-- Offsets: the wait is on cell `t`. -/
theorem off_eq_8 : ∀ t : Fin grid0.N, k0_off4 (grid0.coords t) = ![(Ring.sl 2 t.val).val] := by decide +kernel
/-- The wait is on cell `t`. -/
@[sl_canon] theorem spell_8 (t : Fin grid0.N) :
    (cc0_scratch1.slice (Rect.unit (s := S2) (k0_off4 (grid0.coords t)) S1.size (k0_off4_inb (grid0.coords t)))).squeeze S_ squeezes_S1_S_ = cellArr (Ring.sl 2 t.val) :=
  congrArg (fun A : DmaSems sig S1 => A.squeeze S_ squeezes_S1_S_) (SemArray.slice_unit_congr _ (off_eq_8 t ) _ _)
set_option synthInstance.maxSize 4096 in
/-- Offsets: the next copy, from a later point, reads block `t + 1`. -/
theorem off_eq_9 : ∀ t : Fin grid0.N, ¬isFirst (grid0.coords t) → hasNext (grid0.coords t) → k0_off3 (grid0.coords t) = ![0, 1 * (Ring.bk 8 (t.val + 1)).val, 0] := by decide +kernel
/-- The next copy, from a later point, reads block `t + 1`. -/
@[sl_canon] theorem spell_9 (t : Fin grid0.N) (h0 : ¬isFirst (grid0.coords t)) (h1 : hasNext (grid0.coords t)) :
    (srcMem.slice (Rect.unit (s := S2048x8x1000) (k0_off3 (grid0.coords t)) S2048x1x1000.size (k0_off3_inb (grid0.coords t) h1)) (fun _ => rfl)).squeeze S2048x1000 squeezes_S2048x1x1000_S2048x1000 = blockMem (Ring.bk 8 (t.val + 1)) :=
  congrArg (fun M : Memref sig .tc .hbm S2048x1x1000 .f32 => M.squeeze S2048x1000 squeezes_S2048x1x1000_S2048x1000) (Memref.slice_unit_congr _ (off_eq_9 t h0 h1) _ _ (fun _ => rfl) (fun _ => rfl))
set_option synthInstance.maxSize 4096 in
/-- Offsets: the load reads slot `t`. -/
theorem off_eq_10 : ∀ t : Fin grid0.N, k0_off7 (grid0.coords t) = ![(Ring.sl 2 t.val).val, 0, 0] := by decide +kernel
/-- The box the kernel loads is the slot whose block it waited for. -/
instance (priority := high) closedOff_load (t : Fin grid0.N) : ClosedOff (k0_off7 (grid0.coords t)) := ⟨![(Ring.sl 2 t.val).val, 0, 0], off_eq_10 t⟩
end Spelling

end Cert.KernelIdeal.Cast

end
-- ==== Proof.KernelIdealCastRuns.lean ====
module

public import proofs.«01_k».proof.Proof.KernelIdealCastRing

@[expose] public section

set_option maxRecDepth 16384

noncomputable section

namespace Cert.KernelIdeal.Cast

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The first kernel: its body run at each kind of grid point -/

set_option maxHeartbeats 1000000 in
/-- What the kernel's store leaves in the output buffer at the first point, with the proof that the kernel
    runs: both slots free before; after it block `t` is kept in its slot and block `t + 1` is in flight. -/
noncomputable def runFirst (c : Dev nD) (t : Fin cfg0.N) (arg2 : Memref sig .tc .vmem S1x2048x1000 .bf16) (harg2 : arg2.IsWhole) (hc0 : isFirst (grid0.coords t)) (hc1 : hasNext (grid0.coords t))
     (src : MemBuf (F := F) c srcMem) :
    { L0 : List (View.Piece (Elt F) S1x2048x1000 .bf16) //
      ∀ (W : Waits sig Unit) (K : PUnit → sProp 𝕄),
        iprop((∃ d, owns (c : Thread nD τ) arg2 fullShare d) ∗ Ring.free (cellP c) (slotW c src) (Ring.sl 2 t.val) ∗ Ring.free (cellP c) (slotW c src) (Ring.sl 2 (t.val + 1)) ∗ owes (c : Thread nD τ) 0 W
            ∗ (iprop((∃ f, arg2.view.loc (c : Thread nD τ) ↦[arg2.view.set]{fullShare} arg2.view.writes (Elt F) f L0) ∗ Ring.inflight (flightW c src) (Ring.sl 2 (t.val + 1)) (Ring.bk 8 (t.val + 1)) ∗ Ring.kept (cellP c) (slotW c src) (landed c src) (Ring.sl 2 t.val) (Ring.bk 8 t.val) ∗ (∃ W', owes (c : Thread nD τ) 0 W')) -∗ K ⟨⟩))
          ⊢ wp frame (wpE (defs₀ (F := F)) Variants.none c none) Set.univ (cc0__transpose_cast_body (grid0.coords t) (Memref.whole main_call0_v0) (Memref.isWhole_whole _) arg2 harg2 scratchMem (Memref.isWhole_whole _) cc0_scratch1) K } := by
  refine ⟨?_, fun W K => ?run⟩
  case run =>
    haveI : Fact (isFirst (grid0.coords t)) := ⟨hc0⟩
    haveI : Fact (hasNext (grid0.coords t)) := ⟨hc1⟩
    simp only [cc0__transpose_cast_body_eq_skeleton]; unfold cc0__transpose_cast_body_skel
    have hcanon0 := spell_1 t hc0 hc1
    have hcanon1 := spell_2 t hc0 hc1
    have hcanon2 := spell_3 t hc0 hc1
    unfold owns Ring.free Ring.inflight Ring.kept
    iintro ⟨⟨%d0, %f0, -, H0⟩, ⟨Hc_0, ⟨%fs_0, Hs_0, Hw_0⟩⟩, ⟨Hc_1, ⟨%fs_1, Hs_1, Hw_1⟩⟩, HW, Hk⟩
    ihave Hsp_0 := (wholeP_split c src (Ring.sl 2 t.val) (Ring.bk 8 t.val)).1 $$ Hw_0
    icases Hsp_0 with ⟨Hh_0, Hr_0⟩
    ihave Hsp_1 := (wholeP_split c src (Ring.sl 2 (t.val + 1)) (Ring.bk 8 (t.val + 1))).1 $$ Hw_1
    icases Hsp_1 with ⟨Hh_1, Hr_1⟩
    sl_exec (disch := first | sl_exact hc0 | sl_exact hc1)
    sl_step
    iapply Hk
    isplitl [H0]; · iexists _; iexact H0
    isplitl [Hc_1 Hr_1]
    · iexists _; isplitl [Hc_1]; · iexact Hc_1
      iexact Hr_1
    isplitl [Hc_0 Hs_0 Hh_0 Hr_0]
    · isplitl [Hc_0]; · iexact Hc_0
      iexists _; isplitl [Hs_0]; · iexact Hs_0
      iapply (wholeP_split c src (Ring.sl 2 t.val) (Ring.bk 8 t.val)).2; isplitl [Hh_0]; · iexact Hh_0
      iexact Hr_0
    iexists _; iexact HW

set_option maxHeartbeats 1000000 in
/-- The same at the points between: block `t` in flight before, the other slot keeping an older block. -/
noncomputable def runMiddle (c : Dev nD) (t : Fin cfg0.N) (arg2 : Memref sig .tc .vmem S1x2048x1000 .bf16) (harg2 : arg2.IsWhole) (hc0 : ¬isFirst (grid0.coords t)) (hc1 : hasNext (grid0.coords t))
     (src : MemBuf (F := F) c srcMem) :
    { L0 : List (View.Piece (Elt F) S1x2048x1000 .bf16) //
      ∀ (W : Waits sig Unit) (K : PUnit → sProp 𝕄),
        iprop((∃ d, owns (c : Thread nD τ) arg2 fullShare d) ∗ Ring.inflight (flightW c src) (Ring.sl 2 t.val) (Ring.bk 8 t.val) ∗ Ring.kept (cellP c) (slotW c src) (landed c src) (Ring.sl 2 (t.val + 1)) (Ring.bk 8 (t.val - 1)) ∗ owes (c : Thread nD τ) 0 W
            ∗ (iprop((∃ f, arg2.view.loc (c : Thread nD τ) ↦[arg2.view.set]{fullShare} arg2.view.writes (Elt F) f L0) ∗ Ring.inflight (flightW c src) (Ring.sl 2 (t.val + 1)) (Ring.bk 8 (t.val + 1)) ∗ Ring.kept (cellP c) (slotW c src) (landed c src) (Ring.sl 2 t.val) (Ring.bk 8 t.val) ∗ (∃ W', owes (c : Thread nD τ) 0 W')) -∗ K ⟨⟩))
          ⊢ wp frame (wpE (defs₀ (F := F)) Variants.none c none) Set.univ (cc0__transpose_cast_body (grid0.coords t) (Memref.whole main_call0_v0) (Memref.isWhole_whole _) arg2 harg2 scratchMem (Memref.isWhole_whole _) cc0_scratch1) K } := by
  refine ⟨?_, fun W K => ?run⟩
  case run =>
    haveI : Fact (¬isFirst (grid0.coords t)) := ⟨hc0⟩
    haveI : Fact (hasNext (grid0.coords t)) := ⟨hc1⟩
    simp only [cc0__transpose_cast_body_eq_skeleton]; unfold cc0__transpose_cast_body_skel
    unfold owns Ring.inflight Ring.kept
    iintro ⟨⟨%d0, %f0, -, H0⟩, ⟨%ff, Hf, Hrf⟩, ⟨Hc_1, ⟨%fs_1, Hs_1, Hw_1⟩⟩, HW, Hk⟩
    ihave Hsp_1 := (wholeP_split c src (Ring.sl 2 (t.val + 1)) (Ring.bk 8 (t.val + 1))).1 $$ Hw_1
    icases Hsp_1 with ⟨Hh_1, Hr_1⟩
    sl_exec (disch := first | sl_exact hc0 | sl_exact hc1)
    sl_step
    iapply Hk
    isplitl [H0]; · iexists _; iexact H0
    isplitl [Hc_1 Hr_1]
    · iexists _; isplitl [Hc_1]; · iexact Hc_1
      iexact Hr_1
    isplitl [Hf Hf_dst Hf_src Hrf]
    · isplitl [Hf]; · iexact Hf
      iexists _; isplitl [Hf_dst]; · iexact Hf_dst
      iapply (wholeP_split c src (Ring.sl 2 t.val) (Ring.bk 8 t.val)).2; isplitl [Hf_src]; · iexact Hf_src
      iexact Hrf
    iexists _; iexact HW

set_option maxHeartbeats 1000000 in
/-- The same at the last point: nothing is started. -/
noncomputable def runLast (c : Dev nD) (t : Fin cfg0.N) (arg2 : Memref sig .tc .vmem S1x2048x1000 .bf16) (harg2 : arg2.IsWhole) (hc0 : ¬isFirst (grid0.coords t)) (hc1 : ¬hasNext (grid0.coords t))
     (src : MemBuf (F := F) c srcMem) :
    { L0 : List (View.Piece (Elt F) S1x2048x1000 .bf16) //
      ∀ (W : Waits sig Unit) (K : PUnit → sProp 𝕄),
        iprop((∃ d, owns (c : Thread nD τ) arg2 fullShare d) ∗ Ring.inflight (flightW c src) (Ring.sl 2 t.val) (Ring.bk 8 t.val) ∗ owes (c : Thread nD τ) 0 W
            ∗ (iprop((∃ f, arg2.view.loc (c : Thread nD τ) ↦[arg2.view.set]{fullShare} arg2.view.writes (Elt F) f L0) ∗ Ring.kept (cellP c) (slotW c src) (landed c src) (Ring.sl 2 t.val) (Ring.bk 8 t.val) ∗ (∃ W', owes (c : Thread nD τ) 0 W')) -∗ K ⟨⟩))
          ⊢ wp frame (wpE (defs₀ (F := F)) Variants.none c none) Set.univ (cc0__transpose_cast_body (grid0.coords t) (Memref.whole main_call0_v0) (Memref.isWhole_whole _) arg2 harg2 scratchMem (Memref.isWhole_whole _) cc0_scratch1) K } := by
  refine ⟨?_, fun W K => ?run⟩
  case run =>
    haveI : Fact (¬isFirst (grid0.coords t)) := ⟨hc0⟩
    haveI : Fact (¬hasNext (grid0.coords t)) := ⟨hc1⟩
    simp only [cc0__transpose_cast_body_eq_skeleton]; unfold cc0__transpose_cast_body_skel
    unfold owns Ring.inflight Ring.kept
    iintro ⟨⟨%d0, %f0, -, H0⟩, ⟨%ff, Hf, Hrf⟩, HW, Hk⟩
    sl_exec (disch := first | sl_exact hc0 | sl_exact hc1)
    sl_step
    iapply Hk
    isplitl [H0]; · iexists _; iexact H0
    isplitl [Hf Hf_dst Hf_src Hrf]
    · isplitl [Hf]; · iexact Hf
      iexists _; isplitl [Hf_dst]; · iexact Hf_dst
      iapply (wholeP_split c src (Ring.sl 2 t.val) (Ring.bk 8 t.val)).2; isplitl [Hf_src]; · iexact Hf_src
      iexact Hrf
    iexists _; iexact HW

end Cert.KernelIdeal.Cast

end
-- ==== Proof.KernelIdealCastData.lean ====
module

public import proofs.«01_k».proof.Proof.KernelIdealCastRuns
public import Idealize.ShloMosaic.Lib.Claim

@[expose] public section

set_option maxRecDepth 16384

noncomputable section

namespace Cert.KernelIdeal.Cast

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The first kernel: what it leaves at each point, and its body obligation -/

variable (V : (c : Dev nD) → (b : Ref sig .tc) → Buf (Elt F) ((c : Thread nD τ).loc b))

/-- The store covers the output block. -/
theorem runFirst_cover (c : Dev nD) (t : Fin cfg0.N) (arg2 : Memref sig .tc .vmem S1x2048x1000 .bf16) (harg2 : arg2.IsWhole) (hc0 : isFirst (grid0.coords t)) (hc1 : hasNext (grid0.coords t))
     (src : MemBuf (F := F) c srcMem) (y : S1x2048x1000.Idx) :
    ∃ pc ∈ (runFirst c t arg2 harg2 hc0 hc1 src).1, y ∈ pc.1.set :=
  View.cover_of_tiledL (runFirst c t arg2 harg2 hc0 hc1 src).1 S1x2048x1000.size (by sl_kernel_rfl) y

/-- What the first point leaves in the output buffer. -/
def outFirst (c : Dev nD) (t : Fin cfg0.N) (arg2 : Memref sig .tc .vmem S1x2048x1000 .bf16) (harg2 : arg2.IsWhole) (hc0 : isFirst (grid0.coords t)) (hc1 : hasNext (grid0.coords t))
     (src : MemBuf (F := F) c srcMem) : Vec F S1x2048x1000 .bf16 :=
  outView.read (Elt F) (outView.writes (Elt F) outView.junk (runFirst c t arg2 harg2 hc0 hc1 src).1)

/-- The store covers the output block. -/
theorem runMiddle_cover (c : Dev nD) (t : Fin cfg0.N) (arg2 : Memref sig .tc .vmem S1x2048x1000 .bf16) (harg2 : arg2.IsWhole) (hc0 : ¬isFirst (grid0.coords t)) (hc1 : hasNext (grid0.coords t))
     (src : MemBuf (F := F) c srcMem) (y : S1x2048x1000.Idx) :
    ∃ pc ∈ (runMiddle c t arg2 harg2 hc0 hc1 src).1, y ∈ pc.1.set :=
  View.cover_of_tiledL (runMiddle c t arg2 harg2 hc0 hc1 src).1 S1x2048x1000.size (by sl_kernel_rfl) y

/-- What a point between leaves there. -/
def outMiddle (c : Dev nD) (t : Fin cfg0.N) (arg2 : Memref sig .tc .vmem S1x2048x1000 .bf16) (harg2 : arg2.IsWhole) (hc0 : ¬isFirst (grid0.coords t)) (hc1 : hasNext (grid0.coords t))
     (src : MemBuf (F := F) c srcMem) : Vec F S1x2048x1000 .bf16 :=
  outView.read (Elt F) (outView.writes (Elt F) outView.junk (runMiddle c t arg2 harg2 hc0 hc1 src).1)

/-- The store covers the output block. -/
theorem runLast_cover (c : Dev nD) (t : Fin cfg0.N) (arg2 : Memref sig .tc .vmem S1x2048x1000 .bf16) (harg2 : arg2.IsWhole) (hc0 : ¬isFirst (grid0.coords t)) (hc1 : ¬hasNext (grid0.coords t))
     (src : MemBuf (F := F) c srcMem) (y : S1x2048x1000.Idx) :
    ∃ pc ∈ (runLast c t arg2 harg2 hc0 hc1 src).1, y ∈ pc.1.set :=
  View.cover_of_tiledL (runLast c t arg2 harg2 hc0 hc1 src).1 S1x2048x1000.size (by sl_kernel_rfl) y

/-- What the last point leaves there. -/
def outLast (c : Dev nD) (t : Fin cfg0.N) (arg2 : Memref sig .tc .vmem S1x2048x1000 .bf16) (harg2 : arg2.IsWhole) (hc0 : ¬isFirst (grid0.coords t)) (hc1 : ¬hasNext (grid0.coords t))
     (src : MemBuf (F := F) c srcMem) : Vec F S1x2048x1000 .bf16 :=
  outView.read (Elt F) (outView.writes (Elt F) outView.junk (runLast c t arg2 harg2 hc0 hc1 src).1)

/-- What the output buffer holds after the body at point `n`. -/
def outAt (c : Dev nD) : (n : ℕ) → n < cfg0.N → Vec F S1x2048x1000 .bf16
  | 0, hn => outFirst c ⟨0, hn⟩ (outMem ⟨0, hn⟩) (outMem_whole ⟨0, hn⟩) ((isFirst_iff ⟨0, hn⟩).mpr (Nat.zero_mod _)) ((hasNext_iff ⟨0, hn⟩).mpr (by (try dsimp only); omega)) (V c main_call0_v0)
  | n + 1, hn =>
    if h0 : (n + 1) % 8 = 0 then
      if h1 : (n + 1) < 7 then
        outFirst c ⟨n + 1, hn⟩ (outMem ⟨n + 1, hn⟩) (outMem_whole ⟨n + 1, hn⟩) ((isFirst_iff ⟨n + 1, hn⟩).mpr h0) ((hasNext_iff ⟨n + 1, hn⟩).mpr h1) (V c main_call0_v0)
      else
        False.elim (by have hN : n + 1 < 8 := lt_of_lt_of_eq hn (show cfg0.N = 8 from N_0); omega)
    else
      if h1 : (n + 1) < 7 then
        outMiddle c ⟨n + 1, hn⟩ (outMem ⟨n + 1, hn⟩) (outMem_whole ⟨n + 1, hn⟩) (fun h => h0 ((isFirst_iff ⟨n + 1, hn⟩).mp h)) ((hasNext_iff ⟨n + 1, hn⟩).mpr h1) (V c main_call0_v0)
      else
        outLast c ⟨n + 1, hn⟩ (outMem ⟨n + 1, hn⟩) (outMem_whole ⟨n + 1, hn⟩) (fun h => h0 ((isFirst_iff ⟨n + 1, hn⟩).mp h)) (fun h => h1 ((hasNext_iff ⟨n + 1, hn⟩).mp h)) (V c main_call0_v0)

/-- At the first point. -/
theorem outAt_first (c : Dev nD) (t : Fin cfg0.N) (h0 : t.val % 8 = 0) (h1 : t.val < 7) :
    outAt V c t.val t.isLt = outFirst c t (outMem t) (outMem_whole t) ((isFirst_iff t).mpr h0) ((hasNext_iff t).mpr h1) (V c main_call0_v0) := by
  obtain ⟨n, hn⟩ := t
  cases n with
  | zero => exact rfl
  | succ n => exact (dif_pos h0).trans ((dif_pos h1).trans rfl)

/-- At a point between. -/
theorem outAt_middle (c : Dev nD) (t : Fin cfg0.N) (h0 : ¬t.val % 8 = 0) (h1 : t.val < 7) :
    outAt V c t.val t.isLt = outMiddle c t (outMem t) (outMem_whole t) (fun h => h0 ((isFirst_iff t).mp h)) ((hasNext_iff t).mpr h1) (V c main_call0_v0) := by
  obtain ⟨n, hn⟩ := t
  cases n with
  | zero => exact (by exfalso; (try dsimp only at h0); exact absurd (Nat.zero_mod _) h0)
  | succ n => exact (dif_neg h0).trans ((dif_pos h1).trans rfl)

/-- At the last point. -/
theorem outAt_last (c : Dev nD) (t : Fin cfg0.N) (h0 : ¬t.val % 8 = 0) (h1 : ¬t.val < 7) :
    outAt V c t.val t.isLt = outLast c t (outMem t) (outMem_whole t) (fun h => h0 ((isFirst_iff t).mp h)) (fun h => h1 ((hasNext_iff t).mp h)) (V c main_call0_v0) := by
  obtain ⟨n, hn⟩ := t
  cases n with
  | zero => exact (by exfalso; (try dsimp only at h0); exact absurd (Nat.zero_mod _) h0)
  | succ n => exact (dif_neg h0).trans ((dif_neg h1).trans rfl)

/-- What is held before point `k` beside the windows: the generator register, the other kernel's staging
    buffers, and the ring. -/
def inv (c : Dev nD) (k : ℕ) : sProp 𝕄 := iprop(iprop((∃ r, prngReg c r) ∗ otherStages c) ∗ ringAt c (V c main_call0_v0) k)

/-- The kernel's proof data: the arrays as found, the output buffer at `outAt` after each point, the invariant
    `inv`, nothing owed. -/
def dat (c : Dev nD) : Dat τ (Elt F) Unit ℕ (Pipeline.UD sig nD τ) ℕ cfg0 c where
  A w := V c (Pipeline.arrRef spec0 w)
  after w t := match w with
    | ⟨0, _⟩ => (outAt V c t.val t.isLt)
  Φ t := inv V c t.val
  q _ := fullShare
  owed _ := 0

/-- The arrays are as found. -/
theorem A_eq (c : Dev nD) (w : Fin cfg0.W) : (dat V c).A w = V c (Pipeline.arrRef spec0 w) := by
  dsimp only [dat]

/-- The invariant before point `t`. -/
theorem inv_castSucc (c : Dev nD) (t : Fin cfg0.N) : (dat V c).Φ t.castSucc = inv V c t.val := by
  dsimp only [dat]; simp only [Fin.coe_castSucc]
/-- The invariant after point `t`. -/
theorem inv_succ (c : Dev nD) (t : Fin cfg0.N) : (dat V c).Φ t.succ = inv V c (t.val + 1) := by
  dsimp only [dat]; simp only [Fin.val_succ]

/-- What the output buffer holds after point `t`. -/
theorem after_out (c : Dev nD) (t : Fin cfg0.N) : (dat V c).after 0 t = (outAt V c t.val t.isLt) := by dsimp only [dat]

/-- What the body is called with at point `t`. -/
def bodyPre (c : Dev nD) (t : Fin cfg0.N) : sProp 𝕄 :=
  iprop((dat V c).Φ t.castSucc ∗ (dat V c).owesAt () t.castSucc
    ∗ (∃ d, owns (c : Thread nD τ) (outMem t) fullShare ((dat V c).before 0 t d)))

/-- What the body returns at point `t`. -/
def bodyPost (c : Dev nD) (t : Fin cfg0.N) : sProp 𝕄 :=
  iprop((dat V c).Φ t.succ ∗ (dat V c).owesAt () t.succ
    ∗ owns (c : Thread nD τ) (outMem t) fullShare ((dat V c).after 0 t))

set_option maxHeartbeats 1200000 in
/-- The body, at any point. -/
theorem body_sound (c : Dev nD) (t : Fin cfg0.N) :
    bodyPre V c t ⊢ wp frame (wpE (defs₀ (F := F)) Variants.none c none) Set.univ (bodyAt0 t) (fun _ => bodyPost V c t) := by
  unfold bodyPre bodyPost bodyAt0
  rw [after_out]
  rw [inv_castSucc V c t, inv_succ V c t]
  unfold Dat.owesAt Pipeline.owesWithin
  rw [show (dat V c).owed t.castSucc = 0 from rfl, show (dat V c).owed t.succ = 0 from rfl]
  unfold inv ringAt
  have hgN : grid0.N = 8 := N_0
  have hN : t.val < 8 := lt_of_lt_of_eq t.isLt (show cfg0.N = 8 from N_0)
  by_cases h0 : t.val % 8 = 0
  · by_cases h1 : t.val < 7
    · rw [outAt_first V c t h0 h1]
      unfold outFirst
      have hr := step_first t ((isFirst_iff t).mpr h0) ((hasNext_iff t).mpr h1)
      obtain ⟨hK00, hK10⟩ := hr
      rw [if_pos hK00, if_neg (show ¬t.val + 1 = 0 by omega)]
      rw [Ring.At₀_eq2' _ _ _ t.val hK00 (by decide : 2 ≤ 8), Ring.AtK2_one' _ _ _ _ _ t.val hK00 (by decide : 1 < 8)]
      iintro ⟨⟨Hg, ⟨-, Hfr_0, Hfr_1⟩⟩, ⟨%W, -, HW⟩, ⟨%d0, H0⟩⟩
      iapply ((runFirst c t _ _ ((isFirst_iff t).mpr h0) ((hasNext_iff t).mpr h1) (V c main_call0_v0)).2 W _)
      isplitl [H0]; · iexists _; iexact H0
      isplitl [Hfr_0]; · iexact Hfr_0
      isplitl [Hfr_1]; · iexact Hfr_1
      isplitl [HW]; · iexact HW
      iintro ⟨⟨%e0, H0⟩, Hfl', Hkp', ⟨%W', HW'⟩⟩
      isplitl [Hg Hfl' Hkp']
      · isplitl [Hg]; · iexact Hg
        iapply Ring.with_homes₀
        isplitl [Hfl']; · iexact Hfl'
        iexact Hkp'
      isplitl [HW']
      · iexists W'; isplitr; · ipureintro; exact fun _ _ => Or.inl trivial
        iexact HW'
      unfold owns; iexists _; isplitr
      swap; · iexact H0
      ipureintro; exact View.read_writes_of_cover _ _ _ _ _ (runFirst_cover c _ _ _ _ _ _)
    · exfalso; omega
  · by_cases h1 : t.val < 7
    · rw [outAt_middle V c t h0 h1]
      unfold outMiddle
      have hr := step_middle t (fun h => h0 ((isFirst_iff t).mp h)) ((hasNext_iff t).mpr h1)
      obtain ⟨hK10, hKB0, hKs0⟩ := hr
      rw [if_neg (show ¬t.val = 0 by omega), if_neg (show ¬t.val + 1 = 0 by omega)]
      rw [Ring.AtK2_here _ _ _ _ _ t.val hK10 hKB0, Ring.AtK2_next _ _ _ _ _ t.val hK10 hKB0]
      iintro ⟨⟨Hg, ⟨-, Hfl, Hkp⟩⟩, ⟨%W, -, HW⟩, ⟨%d0, H0⟩⟩
      iapply ((runMiddle c t _ _ (fun h => h0 ((isFirst_iff t).mp h)) ((hasNext_iff t).mpr h1) (V c main_call0_v0)).2 W _)
      isplitl [H0]; · iexists _; iexact H0
      isplitl [Hfl]; · iexact Hfl
      isplitl [Hkp]; · iexact Hkp
      isplitl [HW]; · iexact HW
      iintro ⟨⟨%e0, H0⟩, Hfl', Hkp', ⟨%W', HW'⟩⟩
      isplitl [Hg Hfl' Hkp']
      · isplitl [Hg]; · iexact Hg
        iapply (Ring.with_homes (Idealize.SL.BI.Entails.refl _))
        isplitl [Hfl']; · iexact Hfl'
        iexact Hkp'
      isplitl [HW']
      · iexists W'; isplitr; · ipureintro; exact fun _ _ => Or.inl trivial
        iexact HW'
      unfold owns; iexists _; isplitr
      swap; · iexact H0
      ipureintro; exact View.read_writes_of_cover _ _ _ _ _ (runMiddle_cover c _ _ _ _ _ _)
    · rw [outAt_last V c t h0 h1]
      unfold outLast
      have hr := step_last t (fun h => h0 ((isFirst_iff t).mp h)) (fun h => h1 ((hasNext_iff t).mp h))
      obtain ⟨hK10, hKB0, hKs0⟩ := hr
      rw [if_neg (show ¬t.val = 0 by omega), if_neg (show ¬t.val + 1 = 0 by omega)]
      rw [Ring.AtK2_here_last _ _ _ _ _ t.val hK10 hKB0, Ring.AtK2_next_last _ _ _ _ _ t.val hK10 hKB0]
      iintro ⟨⟨Hg, ⟨-, Hfl, Hkp⟩⟩, ⟨%W, -, HW⟩, ⟨%d0, H0⟩⟩
      iapply ((runLast c t _ _ (fun h => h0 ((isFirst_iff t).mp h)) (fun h => h1 ((hasNext_iff t).mp h)) (V c main_call0_v0)).2 W _)
      isplitl [H0]; · iexists _; iexact H0
      isplitl [Hfl]; · iexact Hfl
      isplitl [HW]; · iexact HW
      iintro ⟨⟨%e0, H0⟩, Hkp', ⟨%W', HW'⟩⟩
      isplitl [Hg Hkp Hkp']
      · isplitl [Hg]; · iexact Hg
        iapply (Ring.with_homes (Idealize.SL.BI.Entails.refl _))
        isplitl [Hkp]; · iexact Hkp
        iexact Hkp'
      isplitl [HW']
      · iexists W'; isplitr; · ipureintro; exact fun _ _ => Or.inl trivial
        iexact HW'
      unfold owns; iexists _; isplitr
      swap; · iexact H0
      ipureintro; exact View.read_writes_of_cover _ _ _ _ _ (runLast_cover c _ _ _ _ _ _)

/-- The body of this kernel in the table of bodies. -/
theorem body_row (t : Fin cfg0.N) :
    defs₀ (F := F) .tc cfg0.body (cfg0.bodyArgs t (cfg0.slots t)) = bodyAt0 t := by
  unfold defs₀; rw [Defs.onTc_tc]

/-- The body, in the form the pipeline asks for. -/
theorem body_obligation (c : Dev nD) : BodyObligation (dat (F := F) V c) (defs₀ (F := F)) Variants.none () Set.univ := fun t => by
  rw [bigSep_W0, bigSep_W0, body_row]
  exact triple_restated (body_sound V c t) rfl .rfl fun _ => .rfl

/-- What the launch hands over is the invariant before the first point. -/
theorem inv_in (c : Dev nD) : Pipeline.ΦD ownSem spec0 srcRefs V c ⊢ (dat V c).Φ 0 := by
  rw [PhiD_eq, show (dat V c).Φ 0 = inv V c 0 from rfl]
  unfold inv
  iintro ⟨⟨HR, HS⟩, Hg, ⟨Hq0, Hq1⟩, Hh0⟩
  isplitl [Hg HS]
  · isplitl [Hg]; · iexact Hg
    iexact HS
  iapply (ring_in (F := F) V c)
  isplitl [HR]; · iexact HR
  isplitl [Hq0 Hq1]
  · isplitl [Hq0]; · iexact Hq0
    iexact Hq1
  iexact Hh0

/-- After the last point the invariant gives it back. -/
theorem inv_out (c : Dev nD) : (dat V c).Φ (Fin.last cfg0.N) ⊢ Pipeline.ΦD ownSem spec0 srcRefs V c := by
  rw [PhiD_eq, show (dat V c).Φ (Fin.last cfg0.N) = inv V c grid0.N from rfl]
  unfold inv
  rw [show grid0.N = 8 by rw [N_0]]
  iintro ⟨⟨Hg, HS⟩, HR⟩
  ihave HX := (ring_out (F := F) V c) $$ HR
  icases HX with ⟨HR, ⟨Hq0, Hq1⟩, Hh0⟩
  isplitl [HR HS]
  · isplitl [HR]; · iexact HR
    iexact HS
  isplitl [Hg]
  · iexact Hg
  isplitl [Hq0 Hq1]
  · isplitl [Hq0]; · iexact Hq0
    iexact Hq1
  iexact Hh0

end Cert.KernelIdeal.Cast

end
-- ==== Proof.KernelIdealFusedRuns.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Fused

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The second kernel: its body run at each kind of grid point

At point `(b, m)` the kernel multiplies the two affine maps of block `b` in submodel `m`, and stores the product
(`m = 0`) or adds it to what the output block holds (`m > 0`). -/

variable (V : (c : Dev nD) → (b : Ref sig .tc) → Buf (Elt F) ((c : Thread nD τ).loc b))

/-- Window `w`'s block at point `t`, read off its array as found. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 holds its block at every point, for any proof data that leaves it in place. -/
theorem before_in0_of {c : Dev nD} (dat : Dat τ (Elt F) Unit ℕ (Pipeline.UD sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- Input window 1 holds its block at every point, for any proof data that leaves it in place. -/
theorem before_in1_of {c : Dev nD} (dat : Dat τ (Elt F) Unit ℕ (Pipeline.UD sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- Input window 2 holds its block at every point, for any proof data that leaves it in place. -/
theorem before_in2_of {c : Dev nD} (dat : Dat τ (Elt F) Unit ℕ (Pipeline.UD sig nD τ) ℕ cfg1 c) (hA : dat.A 2 = V c (Pipeline.arrRef spec1 2))
    (hafter : ∀ t, dat.after 2 t = blockAt V c 2 t) (t : Fin cfg1.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
/-- Input window 3 holds its block at every point, for any proof data that leaves it in place. -/
theorem before_in3_of {c : Dev nD} (dat : Dat τ (Elt F) Unit ℕ (Pipeline.UD sig nD τ) ℕ cfg1 c) (hA : dat.A 3 = V c (Pipeline.arrRef spec1 3))
    (hafter : ∀ t, dat.after 3 t = blockAt V c 3 t) (t : Fin cfg1.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
/-- Input window 4 holds its block at every point, for any proof data that leaves it in place. -/
theorem before_in4_of {c : Dev nD} (dat : Dat τ (Elt F) Unit ℕ (Pipeline.UD sig nD τ) ℕ cfg1 c) (hA : dat.A 4 = V c (Pipeline.arrRef spec1 4))
    (hafter : ∀ t, dat.after 4 t = blockAt V c 4 t) (t : Fin cfg1.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-- The kernel stores its product as it is (its first `if`). -/
abbrev starts (i : grid1.Coords) : Prop := k1_cond1 i = 1#1
/-- It does so where the second grid coordinate is 0. -/
theorem starts_iff : ∀ t : Fin cfg1.N, starts (grid1.coords t) ↔ t.val % 8 = 0 :=
  (fun t => by
    have ht : t.val < 64 := Nat.lt_of_lt_of_eq t.isLt N_1
    have e0 : (grid1.coords t 0).val = t.val / 8 % 8 := Pipeline.Grid.coords_val t 0 (by decide) rfl
    have e1 : (grid1.coords t 1).val = t.val / 1 % 8 := Pipeline.Grid.coords_val t 1 (by decide) rfl
    simp only [starts, k1_cond1, e0, e1]
    word_cmp
   : ∀ t : Fin grid1.N, starts (grid1.coords t) ↔ t.val % 8 = 0)

/-- The kernel adds its product to what the block holds (its second `if`). -/
abbrev adds (i : grid1.Coords) : Prop := k1_cond2 i = 1#1
/-- It does so where the second grid coordinate is not 0. -/
theorem adds_iff : ∀ t : Fin cfg1.N, adds (grid1.coords t) ↔ 1 ≤ t.val % 8 :=
  (fun t => by
    have ht : t.val < 64 := Nat.lt_of_lt_of_eq t.isLt N_1
    have e0 : (grid1.coords t 0).val = t.val / 8 % 8 := Pipeline.Grid.coords_val t 0 (by decide) rfl
    have e1 : (grid1.coords t 1).val = t.val / 1 % 8 := Pipeline.Grid.coords_val t 1 (by decide) rfl
    simp only [adds, k1_cond2, e0, e1]
    word_cmp
   : ∀ t : Fin grid1.N, adds (grid1.coords t) ↔ 1 ≤ t.val % 8)

/-- Input window 0 is in use at every point. -/
theorem live_in0 : ∀ t : Fin cfg1.N, cfg1.idle 0 (grid1.coords t) = false := fun _ => rfl
/-- Input window 1 is in use at every point. -/
theorem live_in1 : ∀ t : Fin cfg1.N, cfg1.idle 1 (grid1.coords t) = false := fun _ => rfl
/-- Input window 2 is in use at every point. -/
theorem live_in2 : ∀ t : Fin cfg1.N, cfg1.idle 2 (grid1.coords t) = false := fun _ => rfl
/-- Input window 3 is in use at every point. -/
theorem live_in3 : ∀ t : Fin cfg1.N, cfg1.idle 3 (grid1.coords t) = false := fun _ => rfl
/-- Input window 4 is in use at every point. -/
theorem live_in4 : ∀ t : Fin cfg1.N, cfg1.idle 4 (grid1.coords t) = false := fun _ => rfl
/-- At which positions the output buffer holds nothing yet: at the start, and after each write-back (every
    eighth point). -/
def freshTab : ℕ → Bool
  | 0 => true
  | n + 1 => (0x8080808080808080 : ℕ).testBit n
/-- The table steps as the pipeline does. -/
theorem freshTab_step : ∀ t : Fin cfg1.N,
    freshTab (t.val + 1) = ((cfg1.win 5).flush t || (cfg1.idle 5 (cfg1.grid.coords t) && freshTab t.val)) := by decide +kernel
/-- So it is the pipeline's own notion. -/
theorem fresh_eq (t : Fin cfg1.N) : cfg1.fresh 5 t.val = freshTab t.val :=
  Pipeline.Cfg.fresh_tab cfg1 5 freshTab rfl freshTab_step t.val (Nat.le_of_lt t.isLt)
/-- The output is stored to where the kernel starts a block, -/
theorem live_start : ∀ t : Fin cfg1.N, starts (grid1.coords t) → ¬adds (grid1.coords t) → cfg1.idle 5 (grid1.coords t) = false := by decide +kernel
/-- and where it adds to one. -/
theorem live_add : ∀ t : Fin cfg1.N, ¬starts (grid1.coords t) → adds (grid1.coords t) → cfg1.idle 5 (grid1.coords t) = false := by decide +kernel
/-- Where it adds, the buffer holds what an earlier point of the same block left. -/
theorem notFresh_add : ∀ t : Fin cfg1.N, ¬starts (grid1.coords t) → adds (grid1.coords t) → cfg1.fresh 5 t.val = false := by
  intro t; rw [fresh_eq t]; revert t; decide +kernel

/-- One staging buffer of the output window; what the window holds is stated through it. -/
abbrev outView : View sig .tc .vmem S1024x1000 .f32 := (Memref.whole cc1_stg5_0 : Memref sig .tc .vmem S1024x1000 .f32).view
/-- The staging buffer window 0 uses at point `t`. -/
abbrev stageMem0 (t : Fin cfg1.N) : Memref sig .tc .vmem S1024x2048 .f32 := win1_0.stage (cfg1.slots t 0)
/-- It is a whole buffer. -/
abbrev stageMem_whole0 (t : Fin cfg1.N) : (stageMem0 t).IsWhole := hstage1_0 ((cfg1.slots t 0).cast nbuf1_0)
/-- The staging buffer window 1 uses at point `t`. -/
abbrev stageMem1 (t : Fin cfg1.N) : Memref sig .tc .vmem S1x2048x1000 .f32 := win1_1.stage (cfg1.slots t 1)
/-- It is a whole buffer. -/
abbrev stageMem_whole1 (t : Fin cfg1.N) : (stageMem1 t).IsWhole := hstage1_1 ((cfg1.slots t 1).cast nbuf1_1)
/-- The staging buffer window 2 uses at point `t`. -/
abbrev stageMem2 (t : Fin cfg1.N) : Memref sig .tc .vmem S1x1x1000 .f32 := win1_2.stage (cfg1.slots t 2)
/-- It is a whole buffer. -/
abbrev stageMem_whole2 (t : Fin cfg1.N) : (stageMem2 t).IsWhole := hstage1_2 ((cfg1.slots t 2).cast nbuf1_2)
/-- The staging buffer window 3 uses at point `t`. -/
abbrev stageMem3 (t : Fin cfg1.N) : Memref sig .tc .vmem S1x2048x1000 .bf16 := win1_3.stage (cfg1.slots t 3)
/-- It is a whole buffer. -/
abbrev stageMem_whole3 (t : Fin cfg1.N) : (stageMem3 t).IsWhole := hstage1_3 ((cfg1.slots t 3).cast nbuf1_3)
/-- The staging buffer window 4 uses at point `t`. -/
abbrev stageMem4 (t : Fin cfg1.N) : Memref sig .tc .vmem S1x1x1000 .f32 := win1_4.stage (cfg1.slots t 4)
/-- It is a whole buffer. -/
abbrev stageMem_whole4 (t : Fin cfg1.N) : (stageMem4 t).IsWhole := hstage1_4 ((cfg1.slots t 4).cast nbuf1_4)
/-- The staging buffer window 5 uses at point `t`. -/
abbrev stageMem5 (t : Fin cfg1.N) : Memref sig .tc .vmem S1024x1000 .f32 := win1_5.stage (cfg1.slots t 5)
/-- It is a whole buffer. -/
abbrev stageMem_whole5 (t : Fin cfg1.N) : (stageMem5 t).IsWhole := hstage1_5 ((cfg1.slots t 5).cast nbuf1_5)

set_option maxHeartbeats 1000000 in
/-- What the kernel's store leaves in the output buffer where it starts a block, with the proof that the kernel
    runs and leaves its inputs as they were. -/
noncomputable def runStart (c : Dev nD) (i : grid1.Coords) (arg2 : Memref sig .tc .vmem S1024x2048 .f32) (harg2 : arg2.IsWhole) (arg3 : Memref sig .tc .vmem S1x2048x1000 .f32) (harg3 : arg3.IsWhole) (arg4 : Memref sig .tc .vmem S1x1x1000 .f32) (harg4 : arg4.IsWhole) (arg5 : Memref sig .tc .vmem S1x2048x1000 .bf16) (harg5 : arg5.IsWhole) (arg6 : Memref sig .tc .vmem S1x1x1000 .f32) (harg6 : arg6.IsWhole) (arg7 : Memref sig .tc .vmem S1024x1000 .f32) (harg7 : arg7.IsWhole) (hc0 : starts i) (hc1 : ¬adds i)
    (x0 : Vec F S1024x2048 .f32) (x1 : Vec F S1x2048x1000 .f32) (x2 : Vec F S1x1x1000 .f32) (x3 : Vec F S1x2048x1000 .bf16) (x4 : Vec F S1x1x1000 .f32) :
    { L5 : List (View.Piece (Elt F) S1024x1000 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)) -∗ K ⟨⟩))
          ⊢ wp frame (wpE (defs₀ (F := F)) Variants.none c none) E (cc1__fused_body i arg2 harg2 arg3 harg3 arg4 harg4 arg5 harg5 arg6 harg6 arg7 harg7) K } := by
  refine ⟨?_, fun E K => ?run⟩
  case run =>
    simp only [cc1__fused_body_eq_skeleton]; unfold cc1__fused_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

set_option maxHeartbeats 1000000 in
/-- The same where it adds to the block, from the running contents `xo5`. -/
noncomputable def runAdd (c : Dev nD) (i : grid1.Coords) (arg2 : Memref sig .tc .vmem S1024x2048 .f32) (harg2 : arg2.IsWhole) (arg3 : Memref sig .tc .vmem S1x2048x1000 .f32) (harg3 : arg3.IsWhole) (arg4 : Memref sig .tc .vmem S1x1x1000 .f32) (harg4 : arg4.IsWhole) (arg5 : Memref sig .tc .vmem S1x2048x1000 .bf16) (harg5 : arg5.IsWhole) (arg6 : Memref sig .tc .vmem S1x1x1000 .f32) (harg6 : arg6.IsWhole) (arg7 : Memref sig .tc .vmem S1024x1000 .f32) (harg7 : arg7.IsWhole) (hc0 : ¬starts i) (hc1 : adds i)
    (x0 : Vec F S1024x2048 .f32) (x1 : Vec F S1x2048x1000 .f32) (x2 : Vec F S1x1x1000 .f32) (x3 : Vec F S1x2048x1000 .bf16) (x4 : Vec F S1x1x1000 .f32) (xo5 : Vec F S1024x1000 .f32) :
    { L5 : List (View.Piece (Elt F) S1024x1000 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)) -∗ K ⟨⟩))
          ⊢ wp frame (wpE (defs₀ (F := F)) Variants.none c none) E (cc1__fused_body i arg2 harg2 arg3 harg3 arg4 harg4 arg5 harg5 arg6 harg6 arg7 harg7) K } := by
  refine ⟨?_, fun E K => ?run⟩
  case run =>
    simp only [cc1__fused_body_eq_skeleton]; unfold cc1__fused_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

end Cert.KernelIdeal.Fused

end
-- ==== Proof.KernelIdealFusedData.lean ====
module

public import proofs.«01_k».proof.Proof.KernelIdealFusedRuns
public import Idealize.ShloMosaic.Lib.Claim

@[expose] public section

set_option maxRecDepth 16384

noncomputable section

namespace Cert.KernelIdeal.Fused

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The second kernel: what it leaves at each point, and its body obligation -/

variable (V : (c : Dev nD) → (b : Ref sig .tc) → Buf (Elt F) ((c : Thread nD τ).loc b))

/-- The store covers the output block. -/
theorem runStart_cover (c : Dev nD) (i : grid1.Coords) (arg2 : Memref sig .tc .vmem S1024x2048 .f32) (harg2 : arg2.IsWhole) (arg3 : Memref sig .tc .vmem S1x2048x1000 .f32) (harg3 : arg3.IsWhole) (arg4 : Memref sig .tc .vmem S1x1x1000 .f32) (harg4 : arg4.IsWhole) (arg5 : Memref sig .tc .vmem S1x2048x1000 .bf16) (harg5 : arg5.IsWhole) (arg6 : Memref sig .tc .vmem S1x1x1000 .f32) (harg6 : arg6.IsWhole) (arg7 : Memref sig .tc .vmem S1024x1000 .f32) (harg7 : arg7.IsWhole) (hc0 : starts i) (hc1 : ¬adds i)
    (x0 : Vec F S1024x2048 .f32) (x1 : Vec F S1x2048x1000 .f32) (x2 : Vec F S1x1x1000 .f32) (x3 : Vec F S1x2048x1000 .bf16) (x4 : Vec F S1x1x1000 .f32) (y : S1024x1000.Idx) :
    ∃ pc ∈ (runStart c i arg2 harg2 arg3 harg3 arg4 harg4 arg5 harg5 arg6 harg6 arg7 harg7 hc0 hc1 x0 x1 x2 x3 x4).1, y ∈ pc.1.set :=
  View.cover_of_tiledL (runStart c i arg2 harg2 arg3 harg3 arg4 harg4 arg5 harg5 arg6 harg6 arg7 harg7 hc0 hc1 x0 x1 x2 x3 x4).1 S1024x1000.size (by sl_kernel_rfl) y

/-- What a starting point leaves in the output buffer. -/
def outStart (c : Dev nD) (i : grid1.Coords) (arg2 : Memref sig .tc .vmem S1024x2048 .f32) (harg2 : arg2.IsWhole) (arg3 : Memref sig .tc .vmem S1x2048x1000 .f32) (harg3 : arg3.IsWhole) (arg4 : Memref sig .tc .vmem S1x1x1000 .f32) (harg4 : arg4.IsWhole) (arg5 : Memref sig .tc .vmem S1x2048x1000 .bf16) (harg5 : arg5.IsWhole) (arg6 : Memref sig .tc .vmem S1x1x1000 .f32) (harg6 : arg6.IsWhole) (arg7 : Memref sig .tc .vmem S1024x1000 .f32) (harg7 : arg7.IsWhole) (hc0 : starts i) (hc1 : ¬adds i)
    (x0 : Vec F S1024x2048 .f32) (x1 : Vec F S1x2048x1000 .f32) (x2 : Vec F S1x1x1000 .f32) (x3 : Vec F S1x2048x1000 .bf16) (x4 : Vec F S1x1x1000 .f32) : Vec F S1024x1000 .f32 :=
  outView.read (Elt F) (outView.writes (Elt F) outView.junk (runStart c i arg2 harg2 arg3 harg3 arg4 harg4 arg5 harg5 arg6 harg6 arg7 harg7 hc0 hc1 x0 x1 x2 x3 x4).1)

/-- The store covers the output block. -/
theorem runAdd_cover (c : Dev nD) (i : grid1.Coords) (arg2 : Memref sig .tc .vmem S1024x2048 .f32) (harg2 : arg2.IsWhole) (arg3 : Memref sig .tc .vmem S1x2048x1000 .f32) (harg3 : arg3.IsWhole) (arg4 : Memref sig .tc .vmem S1x1x1000 .f32) (harg4 : arg4.IsWhole) (arg5 : Memref sig .tc .vmem S1x2048x1000 .bf16) (harg5 : arg5.IsWhole) (arg6 : Memref sig .tc .vmem S1x1x1000 .f32) (harg6 : arg6.IsWhole) (arg7 : Memref sig .tc .vmem S1024x1000 .f32) (harg7 : arg7.IsWhole) (hc0 : ¬starts i) (hc1 : adds i)
    (x0 : Vec F S1024x2048 .f32) (x1 : Vec F S1x2048x1000 .f32) (x2 : Vec F S1x1x1000 .f32) (x3 : Vec F S1x2048x1000 .bf16) (x4 : Vec F S1x1x1000 .f32) (xo5 : Vec F S1024x1000 .f32) (y : S1024x1000.Idx) :
    ∃ pc ∈ (runAdd c i arg2 harg2 arg3 harg3 arg4 harg4 arg5 harg5 arg6 harg6 arg7 harg7 hc0 hc1 x0 x1 x2 x3 x4 xo5).1, y ∈ pc.1.set :=
  View.cover_of_tiledL (runAdd c i arg2 harg2 arg3 harg3 arg4 harg4 arg5 harg5 arg6 harg6 arg7 harg7 hc0 hc1 x0 x1 x2 x3 x4 xo5).1 S1024x1000.size (by sl_kernel_rfl) y

/-- What an adding point leaves there. -/
def outAdd (c : Dev nD) (i : grid1.Coords) (arg2 : Memref sig .tc .vmem S1024x2048 .f32) (harg2 : arg2.IsWhole) (arg3 : Memref sig .tc .vmem S1x2048x1000 .f32) (harg3 : arg3.IsWhole) (arg4 : Memref sig .tc .vmem S1x1x1000 .f32) (harg4 : arg4.IsWhole) (arg5 : Memref sig .tc .vmem S1x2048x1000 .bf16) (harg5 : arg5.IsWhole) (arg6 : Memref sig .tc .vmem S1x1x1000 .f32) (harg6 : arg6.IsWhole) (arg7 : Memref sig .tc .vmem S1024x1000 .f32) (harg7 : arg7.IsWhole) (hc0 : ¬starts i) (hc1 : adds i)
    (x0 : Vec F S1024x2048 .f32) (x1 : Vec F S1x2048x1000 .f32) (x2 : Vec F S1x1x1000 .f32) (x3 : Vec F S1x2048x1000 .bf16) (x4 : Vec F S1x1x1000 .f32) (xo5 : Vec F S1024x1000 .f32) : Vec F S1024x1000 .f32 :=
  outView.read (Elt F) (outView.writes (Elt F) outView.junk (runAdd c i arg2 harg2 arg3 harg3 arg4 harg4 arg5 harg5 arg6 harg6 arg7 harg7 hc0 hc1 x0 x1 x2 x3 x4 xo5).1)

/-- What the output buffer holds after the body at point `n`: a starting point ignores what came before, an
    adding point builds on what point `n - 1` left. -/
def outAt (c : Dev nD) : (n : ℕ) → n < cfg1.N → Vec F S1024x1000 .f32
  | 0, hn => outStart c (grid1.coords ⟨0, hn⟩) (stageMem0 ⟨0, hn⟩) (stageMem_whole0 ⟨0, hn⟩) (stageMem1 ⟨0, hn⟩) (stageMem_whole1 ⟨0, hn⟩) (stageMem2 ⟨0, hn⟩) (stageMem_whole2 ⟨0, hn⟩) (stageMem3 ⟨0, hn⟩) (stageMem_whole3 ⟨0, hn⟩) (stageMem4 ⟨0, hn⟩) (stageMem_whole4 ⟨0, hn⟩) (stageMem5 ⟨0, hn⟩) (stageMem_whole5 ⟨0, hn⟩) ((starts_iff ⟨0, hn⟩).mpr (Nat.zero_mod _)) (fun h => (fun h => by (try dsimp only at h); omega) ((adds_iff ⟨0, hn⟩).mp h)) (blockAt V c 0 ⟨0, hn⟩) (blockAt V c 1 ⟨0, hn⟩) (blockAt V c 2 ⟨0, hn⟩) (blockAt V c 3 ⟨0, hn⟩) (blockAt V c 4 ⟨0, hn⟩)
  | n + 1, hn =>
    if h0 : (n + 1) % 8 = 0 then
      if h1 : 1 ≤ (n + 1) % 8 then
        False.elim (by have hN : n + 1 < 64 := lt_of_lt_of_eq hn (show cfg1.N = 64 from N_1); omega)
      else
        outStart c (grid1.coords ⟨n + 1, hn⟩) (stageMem0 ⟨n + 1, hn⟩) (stageMem_whole0 ⟨n + 1, hn⟩) (stageMem1 ⟨n + 1, hn⟩) (stageMem_whole1 ⟨n + 1, hn⟩) (stageMem2 ⟨n + 1, hn⟩) (stageMem_whole2 ⟨n + 1, hn⟩) (stageMem3 ⟨n + 1, hn⟩) (stageMem_whole3 ⟨n + 1, hn⟩) (stageMem4 ⟨n + 1, hn⟩) (stageMem_whole4 ⟨n + 1, hn⟩) (stageMem5 ⟨n + 1, hn⟩) (stageMem_whole5 ⟨n + 1, hn⟩) ((starts_iff ⟨n + 1, hn⟩).mpr h0) (fun h => h1 ((adds_iff ⟨n + 1, hn⟩).mp h)) (blockAt V c 0 ⟨n + 1, hn⟩) (blockAt V c 1 ⟨n + 1, hn⟩) (blockAt V c 2 ⟨n + 1, hn⟩) (blockAt V c 3 ⟨n + 1, hn⟩) (blockAt V c 4 ⟨n + 1, hn⟩)
    else
      if h1 : 1 ≤ (n + 1) % 8 then
        outAdd c (grid1.coords ⟨n + 1, hn⟩) (stageMem0 ⟨n + 1, hn⟩) (stageMem_whole0 ⟨n + 1, hn⟩) (stageMem1 ⟨n + 1, hn⟩) (stageMem_whole1 ⟨n + 1, hn⟩) (stageMem2 ⟨n + 1, hn⟩) (stageMem_whole2 ⟨n + 1, hn⟩) (stageMem3 ⟨n + 1, hn⟩) (stageMem_whole3 ⟨n + 1, hn⟩) (stageMem4 ⟨n + 1, hn⟩) (stageMem_whole4 ⟨n + 1, hn⟩) (stageMem5 ⟨n + 1, hn⟩) (stageMem_whole5 ⟨n + 1, hn⟩) (fun h => h0 ((starts_iff ⟨n + 1, hn⟩).mp h)) ((adds_iff ⟨n + 1, hn⟩).mpr h1) (blockAt V c 0 ⟨n + 1, hn⟩) (blockAt V c 1 ⟨n + 1, hn⟩) (blockAt V c 2 ⟨n + 1, hn⟩) (blockAt V c 3 ⟨n + 1, hn⟩) (blockAt V c 4 ⟨n + 1, hn⟩) (outAt c n (Nat.lt_of_succ_lt hn))
      else
        False.elim (by have hN : n + 1 < 64 := lt_of_lt_of_eq hn (show cfg1.N = 64 from N_1); omega)

/-- At a starting point. -/
theorem outAt_start (c : Dev nD) (t : Fin cfg1.N) (h0 : t.val % 8 = 0) (h1 : ¬1 ≤ t.val % 8) :
    outAt V c t.val t.isLt = outStart c (grid1.coords t) (stageMem0 t) (stageMem_whole0 t) (stageMem1 t) (stageMem_whole1 t) (stageMem2 t) (stageMem_whole2 t) (stageMem3 t) (stageMem_whole3 t) (stageMem4 t) (stageMem_whole4 t) (stageMem5 t) (stageMem_whole5 t) ((starts_iff t).mpr h0) (fun h => h1 ((adds_iff t).mp h)) (blockAt V c 0 t) (blockAt V c 1 t) (blockAt V c 2 t) (blockAt V c 3 t) (blockAt V c 4 t) := by
  obtain ⟨n, hn⟩ := t
  cases n with
  | zero => exact rfl
  | succ n => exact (dif_pos h0).trans ((dif_neg h1).trans rfl)

/-- At an adding point. -/
theorem outAt_add (c : Dev nD) (t : Fin cfg1.N) (h0 : ¬t.val % 8 = 0) (h1 : 1 ≤ t.val % 8) :
    outAt V c t.val t.isLt = outAdd c (grid1.coords t) (stageMem0 t) (stageMem_whole0 t) (stageMem1 t) (stageMem_whole1 t) (stageMem2 t) (stageMem_whole2 t) (stageMem3 t) (stageMem_whole3 t) (stageMem4 t) (stageMem_whole4 t) (stageMem5 t) (stageMem_whole5 t) (fun h => h0 ((starts_iff t).mp h)) ((adds_iff t).mpr h1) (blockAt V c 0 t) (blockAt V c 1 t) (blockAt V c 2 t) (blockAt V c 3 t) (blockAt V c 4 t) (outAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The kernel's proof data: the arrays as found, each input's buffer at its block, the output's at `outAt`,
    the invariant the buffers that are not this kernel's and the generator register, nothing owed. -/
def dat (c : Dev nD) : Dat τ (Elt F) Unit ℕ (Pipeline.UD sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => (outAt V c t.val t.isLt)
  Φ _ := Pipeline.ΦA spec1 c
  q _ := fullShare
  owed _ := 0

/-- The arrays are as found. -/
theorem A_eq (c : Dev nD) (w : Fin cfg1.W) : (dat V c).A w = V c (Pipeline.arrRef spec1 w) := by
  dsimp only [dat]

/-- What the body leaves in window 0. -/
theorem after_win0 (c : Dev nD) (t : Fin cfg1.N) : (dat V c).after 0 t = blockAt V c 0 t := by dsimp only [dat]
/-- What the body leaves in window 1. -/
theorem after_win1 (c : Dev nD) (t : Fin cfg1.N) : (dat V c).after 1 t = blockAt V c 1 t := by dsimp only [dat]
/-- What the body leaves in window 2. -/
theorem after_win2 (c : Dev nD) (t : Fin cfg1.N) : (dat V c).after 2 t = blockAt V c 2 t := by dsimp only [dat]
/-- What the body leaves in window 3. -/
theorem after_win3 (c : Dev nD) (t : Fin cfg1.N) : (dat V c).after 3 t = blockAt V c 3 t := by dsimp only [dat]
/-- What the body leaves in window 4. -/
theorem after_win4 (c : Dev nD) (t : Fin cfg1.N) : (dat V c).after 4 t = blockAt V c 4 t := by dsimp only [dat]
/-- What the body leaves in window 5. -/
theorem after_win5 (c : Dev nD) (t : Fin cfg1.N) : (dat V c).after 5 t = (outAt V c t.val t.isLt) := by dsimp only [dat]

/-- Input window 0 holds its block at every point. -/
theorem before_in0 (c : Dev nD) (t : Fin cfg1.N) (d) : (dat V c).before 0 t d = blockAt V c 0 t :=
  before_in0_of V (dat V c) (A_eq V c 0) (after_win0 V c) t d
/-- Input window 1 holds its block at every point. -/
theorem before_in1 (c : Dev nD) (t : Fin cfg1.N) (d) : (dat V c).before 1 t d = blockAt V c 1 t :=
  before_in1_of V (dat V c) (A_eq V c 1) (after_win1 V c) t d
/-- Input window 2 holds its block at every point. -/
theorem before_in2 (c : Dev nD) (t : Fin cfg1.N) (d) : (dat V c).before 2 t d = blockAt V c 2 t :=
  before_in2_of V (dat V c) (A_eq V c 2) (after_win2 V c) t d
/-- Input window 3 holds its block at every point. -/
theorem before_in3 (c : Dev nD) (t : Fin cfg1.N) (d) : (dat V c).before 3 t d = blockAt V c 3 t :=
  before_in3_of V (dat V c) (A_eq V c 3) (after_win3 V c) t d
/-- Input window 4 holds its block at every point. -/
theorem before_in4 (c : Dev nD) (t : Fin cfg1.N) (d) : (dat V c).before 4 t d = blockAt V c 4 t :=
  before_in4_of V (dat V c) (A_eq V c 4) (after_win4 V c) t d

/-- The output is never left idle, so nothing has to be carried over idle points. -/
theorem carry_out (c : Dev nD) : ∀ (t : Fin cfg1.N) (_ : t.val ≠ 0), cfg1.idle 5 (grid1.coords t) = true → cfg1.fresh 5 t.val = false →
    (dat V c).after 5 t = (dat V c).after 5 ⟨t.val - 1, by omega⟩ := by
  intro t _ hi _
  have hN : t.val < 64 := lt_of_lt_of_eq t.isLt (show cfg1.N = 64 from N_1)
  rw [after_win5, after_win5]
  by_cases h0 : t.val % 8 = 0
  · by_cases h1 : 1 ≤ t.val % 8
    · exfalso; omega
    · rw [live_start t ((starts_iff t).mpr h0) (fun h => h1 ((adds_iff t).mp h))] at hi
      exact absurd hi Bool.false_ne_true
  · by_cases h1 : 1 ≤ t.val % 8
    · rw [live_add t (fun h => h0 ((starts_iff t).mp h)) ((adds_iff t).mpr h1)] at hi
      exact absurd hi Bool.false_ne_true
    · exfalso; omega
/-- Before an adding point the output buffer holds what the point before left. -/
theorem before_add (c : Dev nD) (t : Fin cfg1.N) (h0 : ¬t.val % 8 = 0) (h1 : 1 ≤ t.val % 8) (d) :
    (dat V c).before 5 t d = (outAt V c (t.val - 1) (Nat.lt_of_le_of_lt (Nat.sub_le _ _) t.isLt)) := by
  rw [Dat.before_out_traj _ 5 rfl (fun _ _ => rfl) (carry_out V c) t.val t rfl d,
    if_neg (by rw [notFresh_add t (fun h => h0 ((starts_iff t).mp h)) ((adds_iff t).mpr h1)]; exact Bool.false_ne_true)]
  dsimp only [dat]

/-- What the body is called with at point `t`. -/
def bodyPre (c : Dev nD) (t : Fin cfg1.N) : sProp 𝕄 :=
  iprop((dat V c).Φ t.castSucc ∗ (dat V c).owesAt () t.castSucc
    ∗ (∃ d, owns (c : Thread nD τ) (stageMem0 t) fullShare ((dat V c).before 0 t d))
    ∗ (∃ d, owns (c : Thread nD τ) (stageMem1 t) fullShare ((dat V c).before 1 t d))
    ∗ (∃ d, owns (c : Thread nD τ) (stageMem2 t) fullShare ((dat V c).before 2 t d))
    ∗ (∃ d, owns (c : Thread nD τ) (stageMem3 t) fullShare ((dat V c).before 3 t d))
    ∗ (∃ d, owns (c : Thread nD τ) (stageMem4 t) fullShare ((dat V c).before 4 t d))
    ∗ (∃ d, owns (c : Thread nD τ) (stageMem5 t) fullShare ((dat V c).before 5 t d)))

/-- What the body returns at point `t`. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 800000 in
/-- The body, at any point. -/
theorem body_sound (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_in0, before_in1, before_in2, before_in3, before_in4]
  rw [show (dat V c).Φ t.succ = (dat V c).Φ t.castSucc from rfl,
    show (dat V c).owesAt () t.succ = (dat V c).owesAt () t.castSucc from rfl]
  have hN : t.val < 64 := lt_of_lt_of_eq t.isLt (show cfg1.N = 64 from N_1)
  by_cases h0 : t.val % 8 = 0
  · by_cases h1 : 1 ≤ t.val % 8
    · exfalso; omega
    · rw [show (dat V c).leavesExact 0 t = owns (c : Thread nD τ) (stageMem0 t) fullShare ((dat V c).after 0 t) from by
      unfold Dat.leavesExact; rw [live_in0 t], after_win0]
      rw [show (dat V c).leavesExact 1 t = owns (c : Thread nD τ) (stageMem1 t) fullShare ((dat V c).after 1 t) from by
      unfold Dat.leavesExact; rw [live_in1 t], after_win1]
      rw [show (dat V c).leavesExact 2 t = owns (c : Thread nD τ) (stageMem2 t) fullShare ((dat V c).after 2 t) from by
      unfold Dat.leavesExact; rw [live_in2 t], after_win2]
      rw [show (dat V c).leavesExact 3 t = owns (c : Thread nD τ) (stageMem3 t) fullShare ((dat V c).after 3 t) from by
      unfold Dat.leavesExact; rw [live_in3 t], after_win3]
      rw [show (dat V c).leavesExact 4 t = owns (c : Thread nD τ) (stageMem4 t) fullShare ((dat V c).after 4 t) from by
      unfold Dat.leavesExact; rw [live_in4 t], after_win4]
      rw [show (dat V c).leavesExact 5 t = owns (c : Thread nD τ) (stageMem5 t) fullShare ((dat V c).after 5 t) from by
      unfold Dat.leavesExact; rw [live_start t ((starts_iff t).mpr h0) (fun h => h1 ((adds_iff t).mp h))], after_win5]
      rw [outAt_start V c t h0 h1]
      unfold outStart
      iintro ⟨HΦ, Ho, ⟨%d0, H0⟩, ⟨%d1, H1⟩, ⟨%d2, H2⟩, ⟨%d3, H3⟩, ⟨%d4, H4⟩, ⟨%d5, H5⟩⟩
      iapply ((runStart c (grid1.coords t) _ _ _ _ _ _ _ _ _ _ _ _ ((starts_iff t).mpr h0) (fun h => h1 ((adds_iff t).mp h)) (blockAt V c 0 t) (blockAt V c 1 t) (blockAt V c 2 t) (blockAt V c 3 t) (blockAt V c 4 t)).2 Set.univ _)
      isplitl [H0]; · iexact H0
      isplitl [H1]; · iexact H1
      isplitl [H2]; · iexact H2
      isplitl [H3]; · iexact H3
      isplitl [H4]; · iexact H4
      isplitl [H5]; · iexists _; iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (runStart_cover c _ _ _ _ _ _ _ _ _ _ _ _ _ _ _ _ _ _ _ _)
  · by_cases h1 : 1 ≤ t.val % 8
    · rw [show (dat V c).leavesExact 0 t = owns (c : Thread nD τ) (stageMem0 t) fullShare ((dat V c).after 0 t) from by
      unfold Dat.leavesExact; rw [live_in0 t], after_win0]
      rw [show (dat V c).leavesExact 1 t = owns (c : Thread nD τ) (stageMem1 t) fullShare ((dat V c).after 1 t) from by
      unfold Dat.leavesExact; rw [live_in1 t], after_win1]
      rw [show (dat V c).leavesExact 2 t = owns (c : Thread nD τ) (stageMem2 t) fullShare ((dat V c).after 2 t) from by
      unfold Dat.leavesExact; rw [live_in2 t], after_win2]
      rw [show (dat V c).leavesExact 3 t = owns (c : Thread nD τ) (stageMem3 t) fullShare ((dat V c).after 3 t) from by
      unfold Dat.leavesExact; rw [live_in3 t], after_win3]
      rw [show (dat V c).leavesExact 4 t = owns (c : Thread nD τ) (stageMem4 t) fullShare ((dat V c).after 4 t) from by
      unfold Dat.leavesExact; rw [live_in4 t], after_win4]
      rw [show (dat V c).leavesExact 5 t = owns (c : Thread nD τ) (stageMem5 t) fullShare ((dat V c).after 5 t) from by
      unfold Dat.leavesExact; rw [live_add t (fun h => h0 ((starts_iff t).mp h)) ((adds_iff t).mpr h1)], after_win5]
      rw [outAt_add V c t h0 h1]
      simp only [before_add V c t h0 h1]
      unfold outAdd
      iintro ⟨HΦ, Ho, ⟨%d0, H0⟩, ⟨%d1, H1⟩, ⟨%d2, H2⟩, ⟨%d3, H3⟩, ⟨%d4, H4⟩, ⟨%d5, H5⟩⟩
      iapply ((runAdd c (grid1.coords t) _ _ _ _ _ _ _ _ _ _ _ _ (fun h => h0 ((starts_iff t).mp h)) ((adds_iff t).mpr h1) (blockAt V c 0 t) (blockAt V c 1 t) (blockAt V c 2 t) (blockAt V c 3 t) (blockAt V c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (runAdd_cover c _ _ _ _ _ _ _ _ _ _ _ _ _ _ _ _ _ _ _ _ _)
    · exfalso; omega

/-- The body of this kernel in the table of bodies. -/
theorem body_row (t : Fin cfg1.N) :
    defs₀ (F := F) .tc cfg1.body (cfg1.bodyArgs t (cfg1.slots t)) = bodyAt1 t := by
  unfold defs₀; rw [Defs.onTc_tc]

/-- The body, in the form the pipeline asks for. -/
theorem body_obligation (c : Dev nD) : BodyObligation (dat (F := F) V c) (defs₀ (F := F)) Variants.none () Set.univ := fun t => by
  rw [bigSep_W1, bigSep_W1, body_row]
  exact triple_restated (body_sound V c t) rfl .rfl fun _ => .rfl
end Cert.KernelIdeal.Fused

end
-- ==== Proof.KernelIdealWhole.lean ====
module

public import proofs.«01_k».proof.Proof.KernelIdealCastData
public import proofs.«01_k».proof.Proof.KernelIdealFusedData
public import Idealize.ShloMosaic.Lib.Pipeline.RegionsLoop
public import Idealize.ShloMosaic.Lib.Pipeline.FrameSuffix
public import Idealize.ShloMosaic.Lib.Claim

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The whole program: two stretches of host operations and two kernels, in turn -/

variable (m : (ℓ : Loc nD τ sig) → Buf (Elt F) ℓ) (ρ : Dev nD → PrngReg)

/-- The five arguments. -/
abbrev argRefs : List (Ref sig .tc) := [main_arg0, main_arg1, main_arg2, main_arg3, main_arg4]

/-- The operations before the first kernel allocate nothing. -/
theorem hostOps0_fresh : (hostOps0 : List (HloOp τ sig (Elt F))).Forall fun op => op.fresh = ∅ := by
  simp only [List.Forall]; repeat' constructor
/-- What the operations before the first kernel write. -/
abbrev hostOps0_W : List (Ref sig .tc) := [main_call0_v0]
/-- They write nothing else. -/
theorem hostOps0_writes : (hostOps0 : List (HloOp τ sig (Elt F))).Forall fun op => op.writes ⊆ (hostOps0_W.map (Proc.devRef (τ := τ) .tc)).toFinset :=
  StableHlo.forall_writes_sub_of_map rfl
/-- No argument is among it. -/
theorem hostOps0_args : ∀ a ∈ argRefs, a ∉ hostOps0_W := ListAll.forall_mem_of_all_decide (by decide +kernel)

/-- The buffers at launch. -/
abbrev W0 : Dev nD → Valuation τ sig (Elt F) := fun c b => (s₀ m ρ).mem ((c : Dev nD), b)
/-- Arguments at launch. -/
theorem W0_args (c : Dev nD) : ∀ a ∈ argRefs, W0 m ρ c (Proc.devRef .tc a) = m ((c : Thread nD τ).loc a) := fun _ _ => rfl
/-- The buffers when the first kernel is entered. -/
abbrev W1 : Dev nD → Valuation τ sig (Elt F) := fun c => StableHlo.after hostOps0 (W0 m ρ c)
/-- A buffer those operations do not write is kept. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- The arguments are as launched. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same, at the references of the core. -/
abbrev V1 : (c : Dev nD) → (b : Ref sig .tc) → Buf (Elt F) ((c : Thread nD τ).loc b) := fun c b => W1 m ρ c b
/-- The buffers when the first kernel is left: its array as its write-backs leave it, the rest as entered. -/
def W2 (c : Dev nD) : Valuation τ sig (Elt F) :=
  Pipeline.withArrays spec0 c (W1 m ρ c) fun w => (Cast.dat (V1 m ρ) c).arrAt w cfg0.N
/-- The first kernel's array when it is left. -/
theorem W2_arr (c : Dev nD) (w : Fin cfg0.W) :
    W2 m ρ c (Proc.devRef .tc (Pipeline.arrRef spec0 w)) = (Cast.dat (V1 m ρ) c).arrAt w cfg0.N := by
  unfold W2; exact Pipeline.withArrays_arr spec0 launch0.win.arr_inj c _ _ w
/-- Any other buffer is kept. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A buffer that is not its output is kept. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((Cast.dat (V1 m ρ) c).arrAt_in w (h w rfl) _).trans (Cast.A_eq (V1 m ρ) c w))
  · exact W2_of_ne m ρ c r fun w e => hw ⟨w, e⟩
/-- No argument is an output of the first kernel. -/
theorem argsIn0 : ∀ a ∈ argRefs, ∀ w : Fin cfg0.W, Pipeline.arrRef spec0 w = a → (cfg0.win w).isOut = false :=
  ListAll.forall_mem_of_all_decide (by decide +kernel)
/-- The arguments are as launched. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same, at the references of the core. -/
abbrev V2 : (c : Dev nD) → (b : Ref sig .tc) → Buf (Elt F) ((c : Thread nD τ).loc b) := fun c b => W2 m ρ c b
/-- The first kernel's array ends as the pipeline says, -/
theorem hF0 (c : Dev nD) (w : Fin cfg0.W) : (Cast.dat (V1 m ρ) c).arrAt w cfg0.N = V2 m ρ c (Pipeline.arrRef spec0 w) :=
  (W2_arr m ρ c w).symm
/-- and every other buffer is kept. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- The operations between the kernels allocate nothing. -/
theorem hostOps1_fresh : (hostOps1 : List (HloOp τ sig (Elt F))).Forall fun op => op.fresh = ∅ := by
  simp only [List.Forall]; repeat' constructor
/-- What the operations between the kernels write. -/
abbrev hostOps1_W : List (Ref sig .tc) := [main_call0_v2, main_call0_v3]
/-- They write nothing else. -/
theorem hostOps1_writes : (hostOps1 : List (HloOp τ sig (Elt F))).Forall fun op => op.writes ⊆ (hostOps1_W.map (Proc.devRef (τ := τ) .tc)).toFinset :=
  StableHlo.forall_writes_sub_of_map rfl
/-- No argument is among it. -/
theorem hostOps1_args : ∀ a ∈ argRefs, a ∉ hostOps1_W := ListAll.forall_mem_of_all_decide (by decide +kernel)

/-- The buffers when the second kernel is entered. -/
abbrev W3 : Dev nD → Valuation τ sig (Elt F) := fun c => StableHlo.after hostOps1 (W2 m ρ c)
/-- A buffer those operations do not write is kept. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
/-- The arguments are as launched. -/
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same, at the references of the core. -/
abbrev V3 : (c : Dev nD) → (b : Ref sig .tc) → Buf (Elt F) ((c : Thread nD τ).loc b) := fun c b => W3 m ρ c b

/-- The buffers at the end: the arrays of the second kernel as its write-backs leave them, the rest as entered.
    -/
def W4 (c : Dev nD) : Valuation τ sig (Elt F) :=
  Pipeline.withArrays spec1 c (W3 m ρ c) fun w => (Fused.dat (V3 m ρ) c).arrAt w cfg1.N
/-- The second kernel's arrays when it is left. -/
theorem W4_arr (c : Dev nD) (w : Fin cfg1.W) :
    W4 m ρ c (Proc.devRef .tc (Pipeline.arrRef spec1 w)) = (Fused.dat (V3 m ρ) c).arrAt w cfg1.N := by
  unfold W4; exact Pipeline.withArrays_arr spec1 launch1.win.arr_inj c _ _ w
/-- Any other buffer is kept. -/
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A buffer that is not its output is kept. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((Fused.dat (V3 m ρ) c).arrAt_in w (h w rfl) _).trans (Fused.A_eq (V3 m ρ) c w))
  · exact W4_of_ne m ρ c r fun w e => hw ⟨w, e⟩
/-- No argument is an output of the second kernel. -/
theorem argsIn1 : ∀ a ∈ argRefs, ∀ w : Fin cfg1.W, Pipeline.arrRef spec1 w = a → (cfg1.win w).isOut = false :=
  ListAll.forall_mem_of_all_decide (by decide +kernel)
/-- The arguments are as launched. -/
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same, at the references of the core. -/
abbrev V4 : (c : Dev nD) → (b : Ref sig .tc) → Buf (Elt F) ((c : Thread nD τ).loc b) := fun c b => W4 m ρ c b
/-- The second kernel's arrays end as the pipeline says, -/
theorem hF1 (c : Dev nD) (w : Fin cfg1.W) : (Fused.dat (V3 m ρ) c).arrAt w cfg1.N = V4 m ρ c (Pipeline.arrRef spec1 w) :=
  (W4_arr m ρ c w).symm
/-- and every other buffer is kept. -/
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- The result holds what the write-backs of the second kernel leave. -/
theorem W4_main_v0 (c : Dev nD) : W4 m ρ c (Proc.devRef .tc main_v0) = (Fused.dat (V3 m ρ) c).arrAt 5 cfg1.N := W4_arr m ρ c 5

/-- Neither kernel prefetches a table. -/
abbrev adm : (p : Fin 2) → (pcfgs (F := F) p).Adm := fun p => (cfgs p).toPCfg_adm
/-- Both kernels' proof data, each at what it is entered with. -/
def pdats : (p : Fin 2) → (c : Dev nD) → Dat τ (Elt F) Unit ℕ (Pipeline.UD sig nD τ) ℕ (Pipeline.pin (pcfgs (F := F)) adm p) c
  | ⟨0, _⟩ => fun c => Cast.dat (V1 m ρ) c
  | ⟨1, _⟩ => fun c => Fused.dat (V3 m ρ) c
/-- No loop needs a variant. -/
abbrev 𝒱₀ : Variants := Variants.none
/-- Nobody owes anybody anything: no level is assigned. -/
abbrev L : GSem nD τ sig → Finset Unit := fun _ => ∅
/-- No level is assigned. -/
abbrev lv : GSem nD τ sig → Unit → ℕ := fun _ _ => 0
/-- What rides along beside the buffers: the generator register, and that nothing is owed. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference is among those held. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What is held at the end. -/
abbrev Tₙ (c : Dev nD) : sProp 𝕄 := iprop(StableHlo.held (c : Thread nD τ) (Pipeline.ucRefs τ sig) (W4 m ρ c) ∗ ∃ r, prngReg c r)
set_option backward.isDefEq.respectTransparency.types false in
/-- The first kernel as a segment: its array, its semaphores and its source array are split out of the buffers
    held, and put back. -/
def reg0 : Pipeline.RegionSeg (pcfgs (F := F)) adm (pdats m ρ) () defs₀ 𝒱₀ L lv 0 where
  win := launch0.win.to₀
  block_pos := launch0.block_pos
  stage_whole := launch0.stage_whole
  K := Fin 2
  osem := Cast.ownSem
  ho := Cast.ownSem_facts
  hbody c := (Cast.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop((∃ r, prngReg c r) ∗ Pipeline.ownSems0 (Ix := Unit) (Name := ℕ) (U := Pipeline.UD sig nD τ) (Lvl := ℕ) (Val := Elt F) (τ := τ) Cast.ownSem c ∗ (bigSep Cast.srcRefs fun b => (((c : Thread nD τ)).loc b) ↦{fullShare} V1 m ρ c b))
  Y c := iprop((∃ r, prngReg c r) ∗ (bigSep Cast.srcRefs fun b => (((c : Thread nD τ)).loc b) ↦{fullShare} V1 m ρ c b))
  Z c := bigSep (Pipeline.restRefs sig spec0 \ Cast.srcRefs) fun b => (((c : Thread nD τ)).loc b) ↦{fullShare} V1 m ρ c b
  hentry c := by
    have hsplit := Pipeline.arrays_of_unscopedBufs (p := 0) (pcfgs (F := F)) adm (pdats m ρ) launch0.win launch0.arr_whole c
      ((pdats m ρ 0 c).share_full fun _ => rfl) (V1 m ρ c) (Cast.A_eq (V1 m ρ) c)
    rw [Pipeline.unscopedBufs_held] at hsplit
    have hH : (Pipeline.unscopedRest (Ix := Unit) (Name := ℕ) (U := Pipeline.UD sig nD τ) (Lvl := ℕ) spec0 c (V1 m ρ c) : sProp 𝕄)
        = iprop((bigSep Cast.srcRefs fun b => (((c : Thread nD τ)).loc b) ↦{fullShare} V1 m ρ c b) ∗ (bigSep (Pipeline.restRefs sig spec0 \ Cast.srcRefs) fun b => (((c : Thread nD τ)).loc b) ↦{fullShare} V1 m ρ c b)) := by
      unfold Pipeline.unscopedRest; exact BI.bigSep_sdiff_split Cast.srcRefs_sub
    iintro ⟨⟨Hub, Hp, HO⟩, Hos, -⟩
    ihave H := hsplit $$ Hub
    icases H with ⟨Ha, Hrest⟩
    ihave H' := (Entails.of_eq hH) $$ Hrest
    icases H' with ⟨HH, HR⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    have hi := Cast.inv_in (V1 m ρ) c
    rw [Pipeline.ΦD_eq] at hi
    rw [show (pdats m ρ 0 c).Φ 0 = (Cast.dat (V1 m ρ) c).Φ 0 from rfl]
    iintro ⟨⟨Hp, Ho, HH⟩, -, Hr⟩
    iapply hi
    isplitl [Hr]; · iexact Hr
    isplitl [Hp]; · iexact Hp
    isplitl [Ho]; · iexact Ho
    iexact HH
  hout c := by
    have ho := Cast.inv_out (V1 m ρ) c
    rw [Pipeline.ΦD_eq] at ho
    rw [show (pdats m ρ 0 c).Φ (Fin.last _) = (Cast.dat (V1 m ρ) c).Φ (Fin.last cfg0.N) from rfl]
    iintro H
    ihave H' := ho $$ H
    icases H' with ⟨Hr, Hp, Ho, HH⟩
    isplitl [Hp HH]
    · isplitl [Hp]; · iexact Hp
      iexact HH
    isplitl [Ho]; · iexact Ho
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    have hH : (Pipeline.unscopedRest (Ix := Unit) (Name := ℕ) (U := Pipeline.UD sig nD τ) (Lvl := ℕ) spec0 c (V1 m ρ c) : sProp 𝕄)
        = iprop((bigSep Cast.srcRefs fun b => (((c : Thread nD τ)).loc b) ↦{fullShare} V1 m ρ c b) ∗ (bigSep (Pipeline.restRefs sig spec0 \ Cast.srcRefs) fun b => (((c : Thread nD τ)).loc b) ↦{fullShare} V1 m ρ c b)) := by
      unfold Pipeline.unscopedRest; exact BI.bigSep_sdiff_split Cast.srcRefs_sub
    iintro ⟨Ha, HO, ⟨HY, HH⟩, HR⟩
    ihave Hrest := (Entails.of_eq hH.symm) $$ [HH HR]
    · isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
set_option backward.isDefEq.respectTransparency.types false in
/-- The second kernel as a segment. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Fused.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (Fused.A_eq (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program: host operations, first kernel, host operations, second kernel. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- The program is the run of these segments. -/
theorem main_run (c : Dev nD) : main (F := F) c = Pipeline.Seg.run (segs m ρ) := (main_chain c).trans (by chain_rfl)

/-- Every semaphore is scoped. -/
theorem no_unscoped : ∀ sm : SemLoc sig, sm.isScoped .tc = true := by decide
set_option backward.isDefEq.respectTransparency.types false in
/-- The whole run: from any memory with zero counters the program terminates, the result holds what the second
    kernel leaves, the arguments are as launched, and every semaphore is at zero. -/
theorem run : θ_run defs (onTc (τ := τ) (main (F := F))) ⟨m, fun _ => 0, ρ⟩ (fun r => (∀ c : Dev nD,
      r.2.mem ((c.tc : Thread nD τ).loc main_v0) = (Fused.dat (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Pipeline.θ_run_regions_kit_sems (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨(h c _ (mem_uc main_v0 (by decide))).trans (W4_main_v0 m ρ c),
      (h c _ (mem_uc main_arg0 (by decide))).trans (W4_args m ρ c main_arg0 (by decide)),
      (h c _ (mem_uc main_arg1 (by decide))).trans (W4_args m ρ c main_arg1 (by decide)),
      (h c _ (mem_uc main_arg2 (by decide))).trans (W4_args m ρ c main_arg2 (by decide)),
      (h c _ (mem_uc main_arg3 (by decide))).trans (W4_args m ρ c main_arg3 (by decide)),
      (h c _ (mem_uc main_arg4 (by decide))).trans (W4_args m ρ c main_arg4 (by decide))⟩), funext fun g => hz g (.inr (no_unscoped g.2))⟩)

/-- The same, of the arguments and the semaphores alone. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (run m ρ)

end Cert.KernelIdeal.Whole

end
-- ==== Proof.ReferenceValue.lean ====
module

public import proofs.«01_k».proof.Proof.Gen.ReferenceIdeal.Run
public import Idealize.ShloMosaic.Lib.Quiescent
public import Idealize.ShloMosaic.Lib.Pointwise
public import Idealize.ShloMosaic.PureOps.Ideal

@[expose] public section

set_option maxRecDepth 16384

noncomputable section

namespace Cert.ReferenceIdeal.Value

open Cert.ReferenceIdeal Cert.ReferenceIdeal.Gen Idealize.ShloMosaic Idealize.ShloMosaic.TcCoe Idealize.SL.Sem

/-! # What the reference computes over the extended reals -/

/-- The reference's result as an array: over the eight submodels, the submodel's affine map of a row times the fusion network's
    affine map of that row in the submodel's columns, summed. -/
def result (x : Vec Ideal S8192x2048 .f32) (w : Vec Ideal S8x2048x1000 .f32) (b : Vec Ideal S8x1000 .f32)
    (rw' : Vec Ideal S2048x8000 .f32) (rb : Vec Ideal S8000 .f32) : Vec Ideal S8192x1000 .f32 := fun i =>
  ∑ m : Fin 8, ((∑ d : Fin 2048, x (ix2 (i 0) d) * w (ix3 m d (i 1))) + b (ix2 m (i 1)))
    * ((∑ d : Fin 2048, x (ix2 (i 0) d) * rw' (ix2 d ⟨m.val * 1000 + (i 1).val, by have := (i 1).isLt; have := m.isLt; simp at *; omega⟩))
        + rb (ix1 ⟨m.val * 1000 + (i 1).val, by have := (i 1).isLt; have := m.isLt; simp at *; omega⟩))

/-- The composed operations' value is that array. -/
theorem term_eq (x : Vec Ideal S8192x2048 .f32) (w : Vec Ideal S8x2048x1000 .f32) (b : Vec Ideal S8x1000 .f32)
    (rw' : Vec Ideal S2048x8000 .f32) (rb : Vec Ideal S8000 .f32) :
    Host.reduceAdd (F := Ideal) (mulf (addf (Host.dotGeneral (φ₁ := .f32) (φ₂ := .f32) dot_S8192x2048_S8x2048x1000_S8192x8x1000_1_1_0_02_n_n none x w)
        (broadcastInDim S8192x8x1000 ![0, 1, 2] bcast_S1x8x1000_S8192x8x1000_0_1_2 (broadcastInDim S1x8x1000 ![1, 2] bcast_S8x1000_S1x8x1000_1_2 b)))
      (shapeCast _ (addf (Host.dotGeneral (φ₁ := .f32) (φ₂ := .f32) dot_S8192x2048_S2048x8000_S8192x8000_1_0_0_1_n_n none x rw')
        (broadcastInDim S8192x8000 ![0, 1] bcast_S1x8000_S8192x8000_0_1 (broadcastInDim S1x8000 ![1] bcast_S8000_S1x8000_1 rb))) shapeCasts_S8192x8000_S8192x8x1000))
      (constant S_ .f32 0x00000000#32) reducesTo_S8192x8x1000_S8192x1000_d1 h_S_ = result x w b rw' rb := by
  funext i
  pointwise [result]

/-- The reference's run: its result buffer at that array, its arguments unchanged, its counters at zero. -/
theorem run_result (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_v10)
          = result (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0 :=
  (θ_run defs _ _).mono (fun r h => ⟨fun c => ⟨(h c).1.trans (term_eq _ _ _ _ _), (h c).2⟩, sem_eq_zero_of_no_sems rfl r.2⟩) (run m ρ)

end Cert.ReferenceIdeal.Value

end
-- ==== Proof.KernelIdealCastValue.lean ====
module

public import proofs.«01_k».proof.Proof.KernelIdealCastData
public import Idealize.ShloMosaic.Lib.Pipeline.ValueKit
public import Idealize.ShloMosaic.Lib.Pointwise
public import Idealize.ShloMosaic.PureOps.Ideal

@[expose] public section

set_option maxRecDepth 16384

noncomputable section

namespace Cert.KernelIdeal.Cast

open Cert.KernelIdeal.Gen
open Idealize.ShloMosaic Idealize.ShloMosaic.TcCoe Idealize.ShloMosaic.Tactic
open Idealize.SL.Sem

/-! # The first kernel's result over the extended reals -/

/-- A block's narrowing changes no element. -/
theorem pay1_apply (v : Vec Ideal S1x2048x1000 .f32) (j : S1x2048x1000.Idx) : k0_pay1 (F := Ideal) v j = v j := by
  pointwise [k0_pay1]

/-- A leading unit axis dropped, at an index. -/
theorem drop_front {α : Type} (w : S1x2048x1000.Idx → α) (d : Fin 2048) (k : Fin 1000) :
    shapeCast S2048x1000 w shapeCasts_S1x2048x1000_S2048x1000 (ix2 d k) = w (ix3 0 d k) := by
  pointwise

/-- A middle unit axis dropped, at an index. -/
theorem drop_middle {α : Type} (w : S2048x1x1000.Idx → α) (h : S2048x1x1000.ShapeCasts S2048x1000) (d : Fin 2048) (k : Fin 1000) :
    shapeCast S2048x1000 w h (ix2 d k) = w (ix3 d 0 k) := by
  pointwise

/-- A slot read through the copies' view of it is the load of the slot's rectangle, the unit axis dropped. -/
theorem read_slot (s : Fin 2) (g : scratchMem.view.ty.Contents (Elt Ideal)) (d : Fin 2048) (k : Fin 1000) :
    ((scratchMem.slice (Rect.unit (s := S2x2048x1000) ![s.val, 0, 0] S1x2048x1000.size (slot_inb s)) (fun _ => rfl)).squeeze S2048x1000 squeezes_S1x2048x1000_S2048x1000).view.read (Elt Ideal) g (ix2 d k)
      = (scratchMem.view.readAt (Elt Ideal) (Rect.unit (s := S2x2048x1000) ![s.val, 0, 0] S1x2048x1000.size (slot_inb s)).toLoadRect g : S1x2048x1000.Idx → Elt Ideal .f32) (ix3 0 d k) :=
  (congrFun (Memref.read_squeeze_slice scratchMem (Rect.unit (s := S2x2048x1000) ![s.val, 0, 0] S1x2048x1000.size (slot_inb s)) (fun _ => rfl)
    squeezes_S1x2048x1000_S2048x1000 shapeCasts_S1x2048x1000_S2048x1000 g) _).trans (drop_front _ d k)

/-- A load of a whole slot after a block's copy into it, at an index: the block's element. -/
theorem load_slot (s : Fin 2) (off : Fin 3 → ℕ) (hoff : off = ![s.val, 0, 0]) (inb : ∀ a, off a + S1x2048x1000.size a ≤ S2x2048x1000.size a)
    (c : Dev nD) (f : MemBuf (F := Ideal) c (slotMem s)) (x : S2048x1000.Idx → Elt Ideal .f32) (j : S1x2048x1000.Idx) :
    (View.whole cc0_scratch0 : View sig .tc .vmem S2x2048x1000 .f32).readAt (Elt Ideal) (Rect.unit (s := S2x2048x1000) off S1x2048x1000.size inb).toLoadRect
      ((slotMem s).view.writes (Elt Ideal) f [⟨Rect.whole S2048x1000, x⟩]) j = x (ix2 (j 1) (j 2)) := by
  subst hoff
  have h := congrFun (View.read_writes_whole (slotMem s).view f x) (ix2 (j 1) (j 2))
  refine Eq.trans ?_ ((read_slot s _ (j 1) (j 2)).symm.trans h)
  have e : j = ix3 0 (j 1) (j 2) := by
    funext a
    fin_cases a
    · exact Fin.ext (Nat.lt_one_iff.mp (j 0).isLt)
    · rfl
    · rfl
  conv_lhs => rw [e]
  rfl

/-- A block of the source, at an index. -/
theorem read_block (b : Fin 8) (c : Dev nD) (f : MemBuf (F := Ideal) c srcMem) (d : Fin 2048) (k : Fin 1000) :
    (blockMem b).view.read (Elt Ideal) f (ix2 d k) = f (ix3 d b k) := by
  have hc : S2048x1x1000.ShapeCasts S2048x1000 := by decide
  refine (congrFun (Memref.read_squeeze_slice srcMem (Rect.unit (s := S2048x8x1000) ![0, 1 * b.val, 0] S2048x1x1000.size (block_inb b)) (fun _ => rfl)
    squeezes_S2048x1x1000_S2048x1000 hc f) _).trans ?_
  have e : (srcMem.view.readAt (Elt Ideal) (Rect.unit (s := S2048x8x1000) ![0, 1 * b.val, 0] S2048x1x1000.size (block_inb b)).toLoadRect f : S2048x1x1000.Idx → Elt Ideal .f32) (ix3 d 0 k) = f (ix3 d b k) := by
    refine congrArg f (funext fun a => ?_)
    fin_cases a <;> exact Fin.ext (by simp [ix3]; try rfl)
  exact (drop_middle _ hc d k).trans e

variable (V : (c : Dev nD) → (b : Ref sig .tc) → Buf (Elt Ideal) ((c : Thread nD τ).loc b))

/-- What a point leaves in the output buffer: the block of the source it is at, its unit axis moved to the front. -/
theorem outAt_apply (c : Dev nD) (t : Fin cfg0.N) (j : S1x2048x1000.Idx) :
    outAt V c t.val t.isLt j = V c main_call0_v0 (ix3 (j 1) (Ring.bk 8 t.val) (j 2)) := by
  have ht : t.val < 8 := Nat.lt_of_lt_of_eq t.isLt N_0
  by_cases h0 : t.val % 8 = 0
  · rw [outAt_first V c t h0 (by omega)]
    frame_out
    exact (pay1_apply _ j).trans ((load_slot _ _ (off_eq_10 t) _ c _ _ j).trans (read_block _ c _ _ _))
  · by_cases h1 : t.val < 7
    · rw [outAt_middle V c t h0 h1]
      frame_out
      exact (pay1_apply _ j).trans ((load_slot _ _ (off_eq_10 t) _ c _ _ j).trans (read_block _ c _ _ _))
    · rw [outAt_last V c t h0 h1]
      frame_out
      exact (pay1_apply _ j).trans ((load_slot _ _ (off_eq_10 t) _ c _ _ j).trans (read_block _ c _ _ _))

theorem index_out : ∀ t : Fin grid0.N, win0_0.index t 0 = t.val ∧ win0_0.index t 1 = 0 ∧ win0_0.index t 2 = 0 := by decide +kernel

/-- The array after the run: the source with its first two axes exchanged. -/
theorem arr_eq (c : Dev nD) :
    (dat V c).arrAt 0 cfg0.N = (fun i => V c main_call0_v0 (ix3 (i 1) (i 0) (i 2)) : Vec Ideal S8x2048x1000 .bf16) := by
  refine (dat V c).arrAt_eq_of_covers 0 _ (by decide +kernel) fun t hf y => ?_
  blk_simp
  rw [after_out, outAt_apply]
  have ht : t.val < 8 := Nat.lt_of_lt_of_eq t.isLt N_0
  have i0 := index_out t
  have hb : (Ring.bk 8 t.val : Fin 8).val = t.val := Nat.mod_eq_of_lt ht
  blk_ext [hb, i0.1, i0.2.1, i0.2.2]

end Cert.KernelIdeal.Cast

end
-- ==== Proof.KernelIdealFusedValue.lean ====
module

public import proofs.«01_k».proof.Proof.KernelIdealFusedData
public import Idealize.ShloMosaic.Lib.Pipeline.ValueKit
public import Idealize.ShloMosaic.Lib.Pointwise
public import Idealize.ShloMosaic.PureOps.Ideal

@[expose] public section

set_option maxRecDepth 16384

noncomputable section

namespace Cert.KernelIdeal.Fused

open Cert.KernelIdeal.Gen
open Idealize.ShloMosaic Idealize.ShloMosaic.TcCoe Idealize.ShloMosaic.Tactic
open Idealize.SL.Sem

/-! # The second kernel's result over the extended reals -/

/-- The product of the two affine maps of a block, at an index. -/
theorem pay1_apply (v0 : Vec Ideal S1024x2048 .f32) (v1 : Vec Ideal S1x2048x1000 .f32) (v4 : Vec Ideal S1x2048x1000 .bf16)
    (v7 v11 : Vec Ideal S1x1x1000 .f32) (j : S1024x1000.Idx) :
    k1_pay1 (F := Ideal) v0 v1 v4 v7 v11 j
      = ((∑ d : Fin 2048, v0 (ix2 (j 0) d) * v1 (ix3 0 d (j 1))) + v7 (ix3 0 0 (j 1)))
        * ((∑ d : Fin 2048, v0 (ix2 (j 0) d) * v4 (ix3 0 d (j 1))) + v11 (ix3 0 0 (j 1))) := by
  pointwise [k1_pay1]

/-- The same added to what the block holds, at an index. -/
theorem pay2_apply (v0 : Vec Ideal S1024x2048 .f32) (v1 : Vec Ideal S1x2048x1000 .f32) (v4 : Vec Ideal S1x2048x1000 .bf16)
    (v7 v11 : Vec Ideal S1x1x1000 .f32) (acc : Vec Ideal S1024x1000 .f32) (j : S1024x1000.Idx) :
    k1_pay2 (F := Ideal) v0 v1 v4 v7 v11 acc j = acc j + k1_pay1 (F := Ideal) v0 v1 v4 v7 v11 j := by
  pointwise [k1_pay2]

variable (V : (c : Dev nD) → (b : Ref sig .tc) → Buf (Elt Ideal) ((c : Thread nD τ).loc b))

/-- The product at point `t`, of the blocks the windows hold there. -/
def termAt (c : Dev nD) (t : Fin cfg1.N) : Vec Ideal S1024x1000 .f32 :=
  k1_pay1 (F := Ideal) (blockAt V c 0 t) (blockAt V c 1 t) (blockAt V c 3 t) (blockAt V c 2 t) (blockAt V c 4 t)

/-- A starting point leaves its product. -/
theorem outAt_start_apply (c : Dev nD) (t : Fin cfg1.N) (h0 : t.val % 8 = 0) (j : S1024x1000.Idx) :
    outAt V c t.val t.isLt j = (fun _ => (0 : EReal)) j + termAt V c t j := by
  rw [outAt_start V c t h0 (by omega)]
  frame_out
  exact (zero_add _).symm

/-- An adding point adds its product to what the point before left. -/
theorem outAt_add_apply (c : Dev nD) (t : Fin cfg1.N) (h0 : ¬t.val % 8 = 0) (j : S1024x1000.Idx) :
    outAt V c t.val t.isLt j
      = outAt V c (t.val - 1) (Nat.lt_of_le_of_lt (Nat.sub_le _ _) t.isLt) j + termAt V c t j := by
  rw [outAt_add V c t h0 (by omega)]
  frame_out
  exact pay2_apply _ _ _ _ _ _ j

/-- Where a block is written back it holds the sum of its eight points' products. -/
theorem outAt_flush (c : Dev nD) (t : Fin cfg1.N) (ht : t.val % 8 = 7) (j : S1024x1000.Idx) :
    outAt V c t.val t.isLt j = ∑ s : Fin 8, termAt V c ⟨8 * (t.val / 8) + s.val, by have := t.isLt; omega⟩ j := by
  rw [Pipeline.eq_sum_fin_of_reset_step_apply_of_flush (fun n h => outAt V c n h) 8 (fun _ => (0 : EReal)) (fun t j => termAt V c t j)
    (fun t h j => outAt_start_apply V c t h j) (fun t h j => outAt_add_apply V c t h j) t ht j]
  exact zero_add _

/-- The blocks' places in their arrays. -/
theorem index_in0 : ∀ t : Fin grid1.N, win1_0.index t 0 = t.val / 8 ∧ win1_0.index t 1 = 0 := by decide +kernel
theorem index_in1 : ∀ t : Fin grid1.N, win1_1.index t 0 = t.val % 8 ∧ win1_1.index t 1 = 0 ∧ win1_1.index t 2 = 0 := by decide +kernel
theorem index_in2 : ∀ t : Fin grid1.N, win1_2.index t 0 = t.val % 8 ∧ win1_2.index t 1 = 0 ∧ win1_2.index t 2 = 0 := by decide +kernel
theorem index_in3 : ∀ t : Fin grid1.N, win1_3.index t 0 = t.val % 8 ∧ win1_3.index t 1 = 0 ∧ win1_3.index t 2 = 0 := by decide +kernel
theorem index_in4 : ∀ t : Fin grid1.N, win1_4.index t 0 = t.val % 8 ∧ win1_4.index t 1 = 0 ∧ win1_4.index t 2 = 0 := by decide +kernel
theorem index_out : ∀ t : Fin grid1.N, win1_5.index t 0 = t.val / 8 ∧ win1_5.index t 1 = 0 := by decide +kernel

/-- What the kernel computes of its five operands, as arrays. -/
def result (x : Vec Ideal S8192x2048 .f32) (w : Vec Ideal S8x2048x1000 .f32) (b : Vec Ideal S8x1x1000 .f32)
    (rw' : Vec Ideal S8x2048x1000 .bf16) (rb : Vec Ideal S8x1x1000 .f32) : Vec Ideal S8192x1000 .f32 := fun i =>
  ∑ m : Fin 8, ((∑ d : Fin 2048, x (ix2 (i 0) d) * w (ix3 m d (i 1))) + b (ix3 m 0 (i 1)))
    * ((∑ d : Fin 2048, x (ix2 (i 0) d) * rw' (ix3 m d (i 1))) + rb (ix3 m 0 (i 1)))

/-- The array after the run. -/
theorem arr_eq (c : Dev nD) :
    (dat V c).arrAt 5 cfg1.N = result (V c main_arg0) (V c main_arg1) (V c main_call0_v2) (V c main_call0_v1) (V c main_call0_v3) := by
  refine (dat V c).arrAt_eq_of_covers 5 _ (by decide +kernel) fun t hf y => ?_
  blk_simp
  rw [after_win5, outAt_flush V c t (by have := (flush1_5 t).mp hf; omega) y]
  unfold result
  refine Fin.sum_fin_congr fun s => ?_
  unfold termAt
  rw [pay1_apply]
  have ht : t.val < 64 := Nat.lt_of_lt_of_eq t.isLt N_1
  generalize hp : (⟨8 * (t.val / 8) + s.val, _⟩ : Fin cfg1.N) = p
  have hd : p.val / 8 = t.val / 8 := by rw [← hp]; show (8 * (t.val / 8) + s.val) / 8 = _; omega
  have hm : p.val % 8 = s.val := by rw [← hp]; show (8 * (t.val / 8) + s.val) % 8 = _; omega
  have i0 := index_in0 p
  have i1 := index_in1 p
  have i2 := index_in2 p
  have i3 := index_in3 p
  have i4 := index_in4 p
  have i5 := index_out t
  rw [hd] at i0
  rw [hm] at i1 i2 i3 i4
  have e0 : ∀ d : Fin 2048, blockAt V c 0 p (ix2 (y 0) d) = V c main_arg0 (ix2 ((win1_5.blk t).view.emb y 0) d) := fun d => by
    blk_ext [blockAt, i0.1, i0.2, i5.1, i5.2]
  have e1 : ∀ d : Fin 2048, blockAt V c 1 p (ix3 0 d (y 1)) = V c main_arg1 (ix3 s d ((win1_5.blk t).view.emb y 1)) := fun d => by
    blk_ext [blockAt, i1.1, i1.2.1, i1.2.2, i5.1, i5.2]
  have e2 : blockAt V c 2 p (ix3 0 0 (y 1)) = V c main_call0_v2 (ix3 s 0 ((win1_5.blk t).view.emb y 1)) := by
    blk_ext [blockAt, i2.1, i2.2.1, i2.2.2, i5.1, i5.2]
  have e3 : ∀ d : Fin 2048, blockAt V c 3 p (ix3 0 d (y 1)) = V c main_call0_v1 (ix3 s d ((win1_5.blk t).view.emb y 1)) := fun d => by
    blk_ext [blockAt, i3.1, i3.2.1, i3.2.2, i5.1, i5.2]
  have e4 : blockAt V c 4 p (ix3 0 0 (y 1)) = V c main_call0_v3 (ix3 s 0 ((win1_5.blk t).view.emb y 1)) := by
    blk_ext [blockAt, i4.1, i4.2.1, i4.2.2, i5.1, i5.2]
  exact congrArg₂ (fun a b : EReal => a * b)
    (congrArg₂ (fun a b : EReal => a + b) (Fin.sum_fin_congr fun d => congrArg₂ (fun a b : EReal => a * b) (e0 d) (e1 d)) e2)
    (congrArg₂ (fun a b : EReal => a + b) (Fin.sum_fin_congr fun d => congrArg₂ (fun a b : EReal => a * b) (e0 d) (e3 d)) e4)

end Cert.KernelIdeal.Fused

end
-- ==== Proof.Equation.lean ====
module

public import proofs.«01_k».proof.Proof.KernelIdealWhole
public import proofs.«01_k».proof.Proof.KernelIdealCastValue
public import proofs.«01_k».proof.Proof.KernelIdealFusedValue
public import proofs.«01_k».proof.Proof.ReferenceValue
public import proofs.«01_k».proof.Defs

@[expose] public section

set_option maxRecDepth 16384

noncomputable section

namespace Cert.Equation

open Cert.KernelIdeal Cert.KernelIdeal.Gen Cert.KernelIdeal.Whole
open Idealize.ShloMosaic Idealize.ShloMosaic.TcCoe Idealize.SL.Sem

/-! # The kernel's result array is the reference's -/

variable (m : (ℓ : Loc nD τ sig) → Buf (Elt Ideal) ℓ) (ρ : Dev nD → PrngReg)

/-- The array the first kernel reads: the fusion network's weights, their columns grouped by submodel. -/
theorem grouped (c : Dev nD) : (V1 m ρ c main_call0_v0 : Vec Ideal S2048x8x1000 .f32)
    = shapeCast S2048x8x1000 (m ((c : Thread nD τ).loc main_arg3) : Vec Ideal S2048x8000 .f32) shapeCasts_S2048x8000_S2048x8x1000 := by
  show StableHlo.after hostOps0 _ _ = _
  after_results <;> rfl

/-- The array of the submodels' biases, a unit axis put in. -/
theorem bias (c : Dev nD) : (V3 m ρ c main_call0_v2 : Vec Ideal S8x1x1000 .f32)
    = shapeCast S8x1x1000 (m ((c : Thread nD τ).loc main_arg2) : Vec Ideal S8x1000 .f32) shapeCasts_S8x1000_S8x1x1000 := by
  rw [← W2_args m ρ c main_arg2 (by decide)]
  show StableHlo.after hostOps1 _ _ = _
  after_results <;> rfl

/-- The array of the fusion network's biases, grouped by submodel, a unit axis put in. -/
theorem fusionBias (c : Dev nD) : (V3 m ρ c main_call0_v3 : Vec Ideal S8x1x1000 .f32)
    = shapeCast S8x1x1000 (m ((c : Thread nD τ).loc main_arg4) : Vec Ideal S8000 .f32) shapeCasts_S8000_S8x1x1000 := by
  rw [← W2_args m ρ c main_arg4 (by decide)]
  show StableHlo.after hostOps1 _ _ = _
  after_results <;> rfl

/-- The array the first kernel leaves, at an index: submodel `k`'s column `i` of the fusion network's weights. -/
theorem regrouped (c : Dev nD) (k : Fin 8) (d : Fin 2048) (i : Fin 1000) :
    (V3 m ρ c main_call0_v1 : Vec Ideal S8x2048x1000 .bf16) (ix3 k d i)
      = (m ((c : Thread nD τ).loc main_arg3) : Vec Ideal S2048x8000 .f32) (ix2 d ⟨k.val * 1000 + i.val, by omega⟩) := by
  have e : (V3 m ρ c main_call0_v1 : Vec Ideal S8x2048x1000 .bf16) = (Cast.dat (V1 m ρ) c).arrAt 0 cfg0.N :=
    (W3_of m ρ c main_call0_v1 (by decide)).trans (W2_arr m ρ c 0)
  rw [e, Cast.arr_eq, grouped]
  pointwise

/-- The two results agree. -/
theorem result_eq (c : Dev nD) :
    (Fused.dat (V3 m ρ) c).arrAt 5 cfg1.N
      = Cert.ReferenceIdeal.Value.result (m ((c : Thread nD τ).loc main_arg0)) (m ((c : Thread nD τ).loc main_arg1)) (m ((c : Thread nD τ).loc main_arg2))
          (m ((c : Thread nD τ).loc main_arg3)) (m ((c : Thread nD τ).loc main_arg4)) := by
  rw [Fused.arr_eq, bias, fusionBias, show V3 m ρ c main_arg0 = m ((c : Thread nD τ).loc main_arg0) from W3_args m ρ c main_arg0 (by decide),
    show V3 m ρ c main_arg1 = m ((c : Thread nD τ).loc main_arg1) from W3_args m ρ c main_arg1 (by decide)]
  funext i
  unfold Fused.result Cert.ReferenceIdeal.Value.result
  refine Fin.sum_fin_congr fun k => ?_
  pointwise
  exact congrArg₂ (fun a b : EReal => a * b) rfl (congrArg₂ (fun a b : EReal => a + b)
    (Fin.sum_fin_congr fun d => congrArg₂ (fun a b : EReal => a * b) rfl (regrouped m ρ c k d (i 1))) rfl)

/-- On equal arguments the kernel and the reference leave one result. -/
theorem algebraic : Cert.algebraic_KernelIdeal_ReferenceIdeal := by
  intro m ρ m' ρ' _ hargs
  refine ⟨fun c => (Fused.dat (V3 m ρ) c).arrAt 5 cfg1.N, (θ_run _ _ _).mono (fun _ h => h.1) (run m ρ), ?_⟩
  refine (θ_run _ _ _).mono (fun _ h c => ⟨(h.1 c).1.trans ?_, (h.1 c).2⟩) (Cert.ReferenceIdeal.Value.run_result m' ρ')
  obtain ⟨e0, e1, e2, e3, e4⟩ := hargs c
  rw [e0, e1, e2, e3, e4]
  exact (result_eq m ρ c).symm

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.KernelWhole
public import proofs.«01_k».proof.Proof.KernelIdealWhole
public import proofs.«01_k».proof.Proof.ReferenceValue
public import proofs.«01_k».proof.Proof.Equation
public import Idealize.ShloMosaic.Adequacy
public import Idealize.ShloMosaic.Init

@[expose] public section

noncomputable section

namespace Cert.Proof

open Idealize.ShloMosaic Idealize.SL.Sem

/-- Every claim: the frames are the runs with the result forgotten, `preserves` holds as the two programs are one,
    and `algebraic` is the equation of the results. -/
theorem claim : Cert.Claim :=
  ⟨Cert.Kernel.Gen.facts, Cert.KernelIdeal.Gen.facts, Cert.ReferenceIdeal.Gen.facts,
    fun m ρ _ => Cert.Kernel.Whole.unchanged m ρ,
    fun m ρ _ => Cert.KernelIdeal.Whole.unchanged m ρ,
    fun m ρ _ => (θ_run _ _ _).mono (fun _ h => ⟨fun c => (h.1 c).2, h.2⟩) (Cert.ReferenceIdeal.Value.run_result m ρ),
    trivial,
    Cert.Equation.algebraic⟩

end Cert.Proof

end
